-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x3x640x640 : Shape := ⟨4, ![16, 3, 640, 640]⟩
abbrev S16x84x20000 : Shape := ⟨3, ![16, 84, 20000]⟩
abbrev S_ : Shape := ⟨0, ![]⟩
abbrev S16x84x20480 : Shape := ⟨3, ![16, 84, 20480]⟩
abbrev S16x84x160x128 : Shape := ⟨4, ![16, 84, 160, 128]⟩
abbrev S16x11x160x128 : Shape := ⟨4, ![16, 11, 160, 128]⟩
abbrev S1x16x11x160x128 : Shape := ⟨5, ![1, 16, 11, 160, 128]⟩
abbrev S1x16x304x8 : Shape := ⟨4, ![1, 16, 304, 8]⟩
abbrev S16x304x8 : Shape := ⟨3, ![16, 304, 8]⟩
abbrev S16x300x6 : Shape := ⟨3, ![16, 300, 6]⟩
abbrev S1x84x160x128 : Shape := ⟨4, ![1, 84, 160, 128]⟩
abbrev S1x11x160x128 : Shape := ⟨4, ![1, 11, 160, 128]⟩
abbrev S1x1x160x128 : Shape := ⟨4, ![1, 1, 160, 128]⟩
abbrev S160x128 : Shape := ⟨2, ![160, 128]⟩
abbrev S16x160x128 : Shape := ⟨3, ![16, 160, 128]⟩
abbrev S1x16x1x160x128 : Shape := ⟨5, ![1, 16, 1, 160, 128]⟩
abbrev S1x160x128 : Shape := ⟨3, ![1, 160, 128]⟩
abbrev S1x1x8 : Shape := ⟨3, ![1, 1, 8]⟩
abbrev S16x128 : Shape := ⟨2, ![16, 128]⟩
abbrev S16x1x128 : Shape := ⟨3, ![16, 1, 128]⟩
abbrev S16x1 : Shape := ⟨2, ![16, 1]⟩
abbrev S16x1x1 : Shape := ⟨3, ![16, 1, 1]⟩
abbrev S16x1x8 : Shape := ⟨3, ![16, 1, 8]⟩
abbrev S1x16x1x8 : Shape := ⟨4, ![1, 16, 1, 8]⟩

abbrev nBuf : Space → Nat
  | .hbm => 11
  | .vmem => 7
  | .smem => 0
  | _ => 0

abbrev bufTy : (tb : Table) → Fin (tcTables nBuf tb) → BufTy
  | .hbm, ⟨0, _⟩ => ⟨S16x3x640x640, .f32⟩
  | .hbm, ⟨1, _⟩ => ⟨S16x84x20000, .f32⟩
  | .hbm, ⟨2, _⟩ => ⟨S_, .i32⟩
  | .hbm, ⟨3, _⟩ => ⟨S_, .f32⟩
  | .hbm, ⟨4, _⟩ => ⟨S16x84x20480, .f32⟩
  | .hbm, ⟨5, _⟩ => ⟨S16x84x160x128, .f32⟩
  | .hbm, ⟨6, _⟩ => ⟨S16x11x160x128, .f32⟩
  | .hbm, ⟨7, _⟩ => ⟨S1x16x11x160x128, .f32⟩
  | .hbm, ⟨8, _⟩ => ⟨S1x16x304x8, .f32⟩
  | .hbm, ⟨9, _⟩ => ⟨S16x304x8, .f32⟩
  | .hbm, ⟨10, _⟩ => ⟨S16x300x6, .f32⟩
  | .local _ .vmem, ⟨0, _⟩ => ⟨S1x84x160x128, .f32⟩
  | .local _ .vmem, ⟨1, _⟩ => ⟨S1x84x160x128, .f32⟩
  | .local _ .vmem, ⟨2, _⟩ => ⟨S1x11x160x128, .f32⟩
  | .local _ .vmem, ⟨3, _⟩ => ⟨S1x11x160x128, .f32⟩
  | .local _ .vmem, ⟨4, _⟩ => ⟨S1x16x11x160x128, .f32⟩
  | .local _ .vmem, ⟨5, _⟩ => ⟨S1x16x304x8, .f32⟩
  | .local _ .vmem, ⟨6, _⟩ => ⟨S16x160x128, .f32⟩
  | _, _ => ⟨S16x3x640x640, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_call0_v0 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_v0 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg1_0 : Ref sig .tc := ⟨.vmem, 5, rfl⟩
abbrev cc1_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem1_0 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x84x160x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x11x160x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![1], ![false]⟩

@[reducible] def k1_t1_loop : Scf.Loop 32 :=
  let c0_i32 : BitVec 32 := 0#32
  let c300_i32 : BitVec 32 := 300#32
  let v11 : BitVec 32 := Scalar.addi c0_i32 c300_i32
  let c1_i32 : BitVec 32 := 1#32
  ⟨c0_i32, v11, c1_i32⟩
def k1_off1 (k1_t1 : Fin k1_t1_loop.trips) : Fin 4 → Nat :=
  let c0_89 : Index := 0#32
  let c0_90 : Index := 0#32
  let c0_i32 : BitVec 32 := 0#32
  let c1_i32 : BitVec 32 := 1#32
  let arg4 : BitVec 32 := Scf.iv c0_i32 c1_i32 k1_t1
  let v180 : Index := Scalar.indexCast arg4
  let c0_91 : Index := 0#32
  ![0, 0, v180.toNat, 0]
def cc1_transform_0 (i : grid1.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc1_transform_1 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage1_0 : Fin 1 → Memref sig .tc .vmem S1x16x11x160x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true]

abbrev stage1_1 : Fin 1 → Memref sig .tc .vmem S1x16x304x8 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true]
-- ==== ReferenceIdeal.lean ====
abbrev S16x3x640x640 : Shape := ⟨4, ![16, 3, 640, 640]⟩
abbrev S16x84x20000 : Shape := ⟨3, ![16, 84, 20000]⟩
abbrev S16x20000x84 : Shape := ⟨3, ![16, 20000, 84]⟩
abbrev S16x20000x4 : Shape := ⟨3, ![16, 20000, 4]⟩
abbrev S16x20000x80 : Shape := ⟨3, ![16, 20000, 80]⟩
abbrev S_ : Shape := ⟨0, ![]⟩
abbrev S16x20000 : Shape := ⟨2, ![16, 20000]⟩
abbrev S16x20000x2 : Shape := ⟨3, ![16, 20000, 2]⟩
abbrev S16x20000x1 : Shape := ⟨3, ![16, 20000, 1]⟩
abbrev S16 : Shape := ⟨1, ![16]⟩
abbrev S300x16 : Shape := ⟨2, ![300, 16]⟩
abbrev S16x1 : Shape := ⟨2, ![16, 1]⟩
abbrev S16x1x1 : Shape := ⟨3, ![16, 1, 1]⟩
abbrev S16x1x4 : Shape := ⟨3, ![16, 1, 4]⟩
abbrev S16x1x2 : Shape := ⟨3, ![16, 1, 2]⟩
abbrev S16x2 : Shape := ⟨2, ![16, 2]⟩
abbrev S1x16 : Shape := ⟨2, ![1, 16]⟩
abbrev S16x300 : Shape := ⟨2, ![16, 300]⟩
abbrev S16x300x1 : Shape := ⟨3, ![16, 300, 1]⟩
abbrev S16x20000x6 : Shape := ⟨3, ![16, 20000, 6]⟩
abbrev S16x300x6 : Shape := ⟨3, ![16, 300, 6]⟩

abbrev nBuf : Space → Nat
  | .hbm => 191
  | .vmem => 0
  | .smem => 0
  | _ => 0

abbrev hbmTy0_0 (i : Nat) : BufTy := match i % 128 with
  | 0 => ⟨S16x3x640x640, .f32⟩
  | 1 => ⟨S16x84x20000, .f32⟩
  | 2 => ⟨S16x20000x84, .f32⟩
  | 3 => ⟨S16x20000x4, .f32⟩
  | 4 => ⟨S16x20000x80, .f32⟩
  | 5 => ⟨S_, .f32⟩
  | 6 => ⟨S16x20000, .f32⟩
  | 7 => ⟨S16x20000x80, .i32⟩
  | 8 => ⟨S_, .f32⟩
  | 9 => ⟨S_, .i32⟩
  | 10 => ⟨S16x20000, .f32⟩
  | 11 => ⟨S16x20000, .i32⟩
  | 12 => ⟨S16x20000, .f32⟩
  | 13 => ⟨S_, .f32⟩
  | 14 => ⟨S16x20000, .f32⟩
  | 15 => ⟨S16x20000, .i1⟩
  | 16 => ⟨S16x20000x2, .f32⟩
  | 17 => ⟨S16x20000x2, .f32⟩
  | 18 => ⟨S_, .f32⟩
  | 19 => ⟨S16x20000x2, .f32⟩
  | 20 => ⟨S16x20000x2, .f32⟩
  | 21 => ⟨S16x20000x2, .f32⟩
  | 22 => ⟨S16x20000x2, .f32⟩
  | 23 => ⟨S16x20000x4, .f32⟩
  | 24 => ⟨S_, .f32⟩
  | 25 => ⟨S16x20000x4, .f32⟩
  | 26 => ⟨S16x20000x4, .f32⟩
  | 27 => ⟨S16x20000x1, .f32⟩
  | 28 => ⟨S16x20000x4, .f32⟩
  | 29 => ⟨S16x20000x4, .f32⟩
  | 30 => ⟨S_, .f32⟩
  | 31 => ⟨S_, .f32⟩
  | 32 => ⟨S16x20000, .f32⟩
  | 33 => ⟨S16x20000, .f32⟩
  | 34 => ⟨S16, .i32⟩
  | 35 => ⟨S_, .i32⟩
  | 36 => ⟨S300x16, .i32⟩
  | 37 => ⟨S_, .i32⟩
  | 38 => ⟨S16x20000x4, .f32⟩
  | 39 => ⟨S16, .i32⟩
  | 40 => ⟨S_, .i32⟩
  | 41 => ⟨S16x20000, .f32⟩
  | 42 => ⟨S300x16, .i32⟩
  | 43 => ⟨S_, .i32⟩
  | 44 => ⟨S_, .i1⟩
  | 45 => ⟨S16x20000, .i32⟩
  | 46 => ⟨S_, .f32⟩
  | 47 => ⟨S_, .i32⟩
  | 48 => ⟨S16, .f32⟩
  | 49 => ⟨S16, .i32⟩
  | 50 => ⟨S16x1, .i32⟩
  | 51 => ⟨S_, .i32⟩
  | 52 => ⟨S16x1, .i32⟩
  | 53 => ⟨S16x1, .i1⟩
  | 54 => ⟨S_, .i32⟩
  | 55 => ⟨S16x1, .i32⟩
  | 56 => ⟨S16x1, .i32⟩
  | 57 => ⟨S16x1, .i32⟩
  | 58 => ⟨S16x1x1, .i32⟩
  | 59 => ⟨S16x1, .f32⟩
  | 60 => ⟨S16, .f32⟩
  | 61 => ⟨S_, .f32⟩
  | 62 => ⟨S16, .f32⟩
  | 63 => ⟨S16, .i1⟩
  | 64 => ⟨S_, .i32⟩
  | 65 => ⟨S16, .i32⟩
  | 66 => ⟨S16, .i32⟩
  | 67 => ⟨S16x1, .i32⟩
  | 68 => ⟨S16x1x1, .i32⟩
  | 69 => ⟨S_, .i32⟩
  | 70 => ⟨S16x1x1, .i32⟩
  | 71 => ⟨S16x1x1, .i1⟩
  | 72 => ⟨S_, .i32⟩
  | 73 => ⟨S16x1x1, .i32⟩
  | 74 => ⟨S16x1x1, .i32⟩
  | 75 => ⟨S16x1x1, .i32⟩
  | 76 => ⟨S16x1x4, .f32⟩
  | 77 => ⟨S16x1x2, .f32⟩
  | 78 => ⟨S16x20000x2, .f32⟩
  | 79 => ⟨S16x20000x2, .f32⟩
  | 80 => ⟨S16x20000x2, .f32⟩
  | 81 => ⟨S16x1x2, .f32⟩
  | 82 => ⟨S16x20000x2, .f32⟩
  | 83 => ⟨S16x20000x2, .f32⟩
  | 84 => ⟨S16x20000x2, .f32⟩
  | 85 => ⟨S16x20000x2, .f32⟩
  | 86 => ⟨S_, .f32⟩
  | 87 => ⟨S16x20000x2, .f32⟩
  | 88 => ⟨S16x20000x2, .f32⟩
  | 89 => ⟨S16x20000x1, .f32⟩
  | 90 => ⟨S16x20000, .f32⟩
  | 91 => ⟨S16x20000x1, .f32⟩
  | 92 => ⟨S16x20000, .f32⟩
  | 93 => ⟨S16x20000, .f32⟩
  | 94 => ⟨S16x1x1, .f32⟩
  | 95 => ⟨S16x1, .f32⟩
  | 96 => ⟨S16x1x1, .f32⟩
  | 97 => ⟨S16x1, .f32⟩
  | 98 => ⟨S16x1, .f32⟩
  | 99 => ⟨S_, .f32⟩
  | 100 => ⟨S16x1, .f32⟩
  | 101 => ⟨S16x1, .f32⟩
  | 102 => ⟨S16x1x1, .f32⟩
  | 103 => ⟨S16x1, .f32⟩
  | 104 => ⟨S16x1x1, .f32⟩
  | 105 => ⟨S16x1, .f32⟩
  | 106 => ⟨S16x1, .f32⟩
  | 107 => ⟨S_, .f32⟩
  | 108 => ⟨S16x1, .f32⟩
  | 109 => ⟨S16x1, .f32⟩
  | 110 => ⟨S16x1, .f32⟩
  | 111 => ⟨S16x20000x1, .f32⟩
  | 112 => ⟨S16x20000, .f32⟩
  | 113 => ⟨S16x20000x1, .f32⟩
  | 114 => ⟨S16x20000, .f32⟩
  | 115 => ⟨S16x20000, .f32⟩
  | 116 => ⟨S_, .f32⟩
  | 117 => ⟨S16x20000, .f32⟩
  | 118 => ⟨S16x20000, .f32⟩
  | 119 => ⟨S16x20000x1, .f32⟩
  | 120 => ⟨S16x20000, .f32⟩
  | 121 => ⟨S16x20000x1, .f32⟩
  | 122 => ⟨S16x20000, .f32⟩
  | 123 => ⟨S16x20000, .f32⟩
  | 124 => ⟨S_, .f32⟩
  | 125 => ⟨S16x20000, .f32⟩
  | 126 => ⟨S16x20000, .f32⟩
  | 127 => ⟨S16x20000, .f32⟩
  | _ => ⟨S16x3x640x640, .f32⟩

abbrev hbmTy0_1 (i : Nat) : BufTy := match i % 128 with
  | 0 => ⟨S16x20000, .f32⟩
  | 1 => ⟨S16x20000, .f32⟩
  | 2 => ⟨S16x20000, .f32⟩
  | 3 => ⟨S_, .f32⟩
  | 4 => ⟨S16x20000, .f32⟩
  | 5 => ⟨S16x20000, .f32⟩
  | 6 => ⟨S16x20000, .f32⟩
  | 7 => ⟨S_, .f32⟩
  | 8 => ⟨S16x20000, .f32⟩
  | 9 => ⟨S16x20000, .i1⟩
  | 10 => ⟨S_, .f32⟩
  | 11 => ⟨S_, .f32⟩
  | 12 => ⟨S16x20000, .f32⟩
  | 13 => ⟨S16x20000, .f32⟩
  | 14 => ⟨S_, .i32⟩
  | 15 => ⟨S16, .i32⟩
  | 16 => ⟨S16, .i1⟩
  | 17 => ⟨S_, .i32⟩
  | 18 => ⟨S16, .i32⟩
  | 19 => ⟨S16, .i32⟩
  | 20 => ⟨S16, .i32⟩
  | 21 => ⟨S_, .i32⟩
  | 22 => ⟨S16, .i32⟩
  | 23 => ⟨S16, .i1⟩
  | 24 => ⟨S_, .i32⟩
  | 25 => ⟨S16, .i32⟩
  | 26 => ⟨S16, .i32⟩
  | 27 => ⟨S16, .i32⟩
  | 28 => ⟨S16x1, .i32⟩
  | 29 => ⟨S16x1, .i32⟩
  | 30 => ⟨S16x2, .i32⟩
  | 31 => ⟨S_, .f32⟩
  | 32 => ⟨S16, .f32⟩
  | 33 => ⟨S16x20000, .f32⟩
  | 34 => ⟨S1x16, .i32⟩
  | 35 => ⟨S_, .i32⟩
  | 36 => ⟨S300x16, .i32⟩
  | 37 => ⟨S_, .i32⟩
  | 38 => ⟨S_, .i32⟩
  | 39 => ⟨S16x300, .i32⟩
  | 40 => ⟨S_, .i32⟩
  | 41 => ⟨S16x300, .i32⟩
  | 42 => ⟨S16x300, .i32⟩
  | 43 => ⟨S_, .i32⟩
  | 44 => ⟨S16x300, .i32⟩
  | 45 => ⟨S16x300, .i1⟩
  | 46 => ⟨S16x300, .i32⟩
  | 47 => ⟨S16x300, .f32⟩
  | 48 => ⟨S16x300x1, .f32⟩
  | 49 => ⟨S16x20000x1, .f32⟩
  | 50 => ⟨S16x20000x1, .f32⟩
  | 51 => ⟨S16x20000x6, .f32⟩
  | 52 => ⟨S16x300x1, .i32⟩
  | 53 => ⟨S_, .i32⟩
  | 54 => ⟨S16x300x1, .i32⟩
  | 55 => ⟨S16x300x1, .i1⟩
  | 56 => ⟨S_, .i32⟩
  | 57 => ⟨S16x300x1, .i32⟩
  | 58 => ⟨S16x300x1, .i32⟩
  | 59 => ⟨S16x300x1, .i32⟩
  | 60 => ⟨S16x300x6, .f32⟩
  | 61 => ⟨S16x300x6, .f32⟩
  | 62 => ⟨S16x300x6, .f32⟩
  | _ => ⟨S16x3x640x640, .f32⟩

abbrev hbmTy (i : Nat) : BufTy := match i / 128 with
  | 0 => hbmTy0_0 i
  | 1 => hbmTy0_1 i
  | _ => ⟨S16x3x640x640, .f32⟩

abbrev bufTy : (tb : Table) → Fin (tcTables nBuf tb) → BufTy
  | .hbm, ⟨i, _⟩ => hbmTy i
  | _, _ => ⟨S16x3x640x640, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_call0_v0 : Ref sig .tc := ⟨.hbm, 7, rfl⟩
abbrev main_call0_cst : Ref sig .tc := ⟨.hbm, 8, rfl⟩
abbrev main_call0_c : Ref sig .tc := ⟨.hbm, 9, rfl⟩
abbrev main_call0_v1_0 : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_call1_v0 : Ref sig .tc := ⟨.hbm, 31, rfl⟩
abbrev main_call1_v1 : Ref sig .tc := ⟨.hbm, 32, rfl⟩
abbrev main_v20 : Ref sig .tc := ⟨.hbm, 33, rfl⟩
abbrev main_v21 : Ref sig .tc := ⟨.hbm, 34, rfl⟩
abbrev main_c : Ref sig .tc := ⟨.hbm, 35, rfl⟩
abbrev main_v22 : Ref sig .tc := ⟨.hbm, 36, rfl⟩
abbrev main_c_4 : Ref sig .tc := ⟨.hbm, 37, rfl⟩
abbrev main_v23_0 : Ref sig .tc := ⟨.hbm, 38, rfl⟩
abbrev main_v23_1 : Ref sig .tc := ⟨.hbm, 39, rfl⟩
abbrev main_v23_2 : Ref sig .tc := ⟨.hbm, 40, rfl⟩
abbrev main_v23_3 : Ref sig .tc := ⟨.hbm, 41, rfl⟩
abbrev main_v23_4 : Ref sig .tc := ⟨.hbm, 42, rfl⟩
abbrev main_while0c_c_11 : Ref sig .tc := ⟨.hbm, 43, rfl⟩
abbrev main_while0c_v39 : Ref sig .tc := ⟨.hbm, 44, rfl⟩
abbrev main_while0b_call2_v0 : Ref sig .tc := ⟨.hbm, 45, rfl⟩
abbrev main_while0b_call2_cst : Ref sig .tc := ⟨.hbm, 46, rfl⟩
abbrev main_while0b_call2_c : Ref sig .tc := ⟨.hbm, 47, rfl⟩
abbrev main_while0b_call2_v1_0 : Ref sig .tc := ⟨.hbm, 48, rfl⟩
abbrev main_while0b_v39 : Ref sig .tc := ⟨.hbm, 49, rfl⟩
abbrev main_while0b_v40 : Ref sig .tc := ⟨.hbm, 50, rfl⟩
abbrev main_while0b_call3_c : Ref sig .tc := ⟨.hbm, 51, rfl⟩
abbrev main_while0b_call3_v0 : Ref sig .tc := ⟨.hbm, 52, rfl⟩
abbrev main_while0b_call3_v1 : Ref sig .tc := ⟨.hbm, 53, rfl⟩
abbrev main_while0b_call3_c_0 : Ref sig .tc := ⟨.hbm, 54, rfl⟩
abbrev main_while0b_call3_v2 : Ref sig .tc := ⟨.hbm, 55, rfl⟩
abbrev main_while0b_call3_v3 : Ref sig .tc := ⟨.hbm, 56, rfl⟩
abbrev main_while0b_call3_v4 : Ref sig .tc := ⟨.hbm, 57, rfl⟩
abbrev main_while0b_call3_v5 : Ref sig .tc := ⟨.hbm, 58, rfl⟩
abbrev main_while0b_v41 : Ref sig .tc := ⟨.hbm, 59, rfl⟩
abbrev main_while0b_v42 : Ref sig .tc := ⟨.hbm, 60, rfl⟩
abbrev main_while0b_cst_11 : Ref sig .tc := ⟨.hbm, 61, rfl⟩
abbrev main_while0b_v43 : Ref sig .tc := ⟨.hbm, 62, rfl⟩
abbrev main_while0b_v44 : Ref sig .tc := ⟨.hbm, 63, rfl⟩
abbrev main_while0b_c_12 : Ref sig .tc := ⟨.hbm, 64, rfl⟩
abbrev main_while0b_call4_v0 : Ref sig .tc := ⟨.hbm, 65, rfl⟩
abbrev main_while0b_v45 : Ref sig .tc := ⟨.hbm, 66, rfl⟩
abbrev main_while0b_v46 : Ref sig .tc := ⟨.hbm, 67, rfl⟩
abbrev main_while0b_v47 : Ref sig .tc := ⟨.hbm, 68, rfl⟩
abbrev main_while0b_call5_c : Ref sig .tc := ⟨.hbm, 69, rfl⟩
abbrev main_while0b_call5_v0 : Ref sig .tc := ⟨.hbm, 70, rfl⟩
abbrev main_while0b_call5_v1 : Ref sig .tc := ⟨.hbm, 71, rfl⟩
abbrev main_while0b_call5_c_0 : Ref sig .tc := ⟨.hbm, 72, rfl⟩
abbrev main_while0b_call5_v2 : Ref sig .tc := ⟨.hbm, 73, rfl⟩
abbrev main_while0b_call5_v3 : Ref sig .tc := ⟨.hbm, 74, rfl⟩
abbrev main_while0b_call5_v4 : Ref sig .tc := ⟨.hbm, 75, rfl⟩
abbrev main_while0b_v48 : Ref sig .tc := ⟨.hbm, 76, rfl⟩
abbrev main_while0b_v49 : Ref sig .tc := ⟨.hbm, 77, rfl⟩
abbrev main_while0b_v50 : Ref sig .tc := ⟨.hbm, 78, rfl⟩
abbrev main_while0b_v51 : Ref sig .tc := ⟨.hbm, 79, rfl⟩
abbrev main_while0b_v52 : Ref sig .tc := ⟨.hbm, 80, rfl⟩
abbrev main_while0b_v53 : Ref sig .tc := ⟨.hbm, 81, rfl⟩
abbrev main_while0b_v54 : Ref sig .tc := ⟨.hbm, 82, rfl⟩
abbrev main_while0b_v55 : Ref sig .tc := ⟨.hbm, 83, rfl⟩
abbrev main_while0b_v56 : Ref sig .tc := ⟨.hbm, 84, rfl⟩
abbrev main_while0b_v57 : Ref sig .tc := ⟨.hbm, 85, rfl⟩
abbrev main_while0b_cst_13 : Ref sig .tc := ⟨.hbm, 86, rfl⟩
abbrev main_while0b_v58 : Ref sig .tc := ⟨.hbm, 87, rfl⟩
abbrev main_while0b_v59 : Ref sig .tc := ⟨.hbm, 88, rfl⟩
abbrev main_while0b_v60 : Ref sig .tc := ⟨.hbm, 89, rfl⟩
abbrev main_while0b_v61 : Ref sig .tc := ⟨.hbm, 90, rfl⟩
abbrev main_while0b_v62 : Ref sig .tc := ⟨.hbm, 91, rfl⟩
abbrev main_while0b_v63 : Ref sig .tc := ⟨.hbm, 92, rfl⟩
abbrev main_while0b_v64 : Ref sig .tc := ⟨.hbm, 93, rfl⟩
abbrev main_while0b_v65 : Ref sig .tc := ⟨.hbm, 94, rfl⟩
abbrev main_while0b_v66 : Ref sig .tc := ⟨.hbm, 95, rfl⟩
abbrev main_while0b_v67 : Ref sig .tc := ⟨.hbm, 96, rfl⟩
abbrev main_while0b_v68 : Ref sig .tc := ⟨.hbm, 97, rfl⟩
abbrev main_while0b_v69 : Ref sig .tc := ⟨.hbm, 98, rfl⟩
abbrev main_while0b_cst_14 : Ref sig .tc := ⟨.hbm, 99, rfl⟩
abbrev main_while0b_v70 : Ref sig .tc := ⟨.hbm, 100, rfl⟩
abbrev main_while0b_v71 : Ref sig .tc := ⟨.hbm, 101, rfl⟩
abbrev main_while0b_v72 : Ref sig .tc := ⟨.hbm, 102, rfl⟩
abbrev main_while0b_v73 : Ref sig .tc := ⟨.hbm, 103, rfl⟩
abbrev main_while0b_v74 : Ref sig .tc := ⟨.hbm, 104, rfl⟩
abbrev main_while0b_v75 : Ref sig .tc := ⟨.hbm, 105, rfl⟩
abbrev main_while0b_v76 : Ref sig .tc := ⟨.hbm, 106, rfl⟩
abbrev main_while0b_cst_15 : Ref sig .tc := ⟨.hbm, 107, rfl⟩
abbrev main_while0b_v77 : Ref sig .tc := ⟨.hbm, 108, rfl⟩
abbrev main_while0b_v78 : Ref sig .tc := ⟨.hbm, 109, rfl⟩
abbrev main_while0b_v79 : Ref sig .tc := ⟨.hbm, 110, rfl⟩
abbrev main_while0b_v80 : Ref sig .tc := ⟨.hbm, 111, rfl⟩
abbrev main_while0b_v81 : Ref sig .tc := ⟨.hbm, 112, rfl⟩
abbrev main_while0b_v82 : Ref sig .tc := ⟨.hbm, 113, rfl⟩
abbrev main_while0b_v83 : Ref sig .tc := ⟨.hbm, 114, rfl⟩
abbrev main_while0b_v84 : Ref sig .tc := ⟨.hbm, 115, rfl⟩
abbrev main_while0b_cst_16 : Ref sig .tc := ⟨.hbm, 116, rfl⟩
abbrev main_while0b_v85 : Ref sig .tc := ⟨.hbm, 117, rfl⟩
abbrev main_while0b_v86 : Ref sig .tc := ⟨.hbm, 118, rfl⟩
abbrev main_while0b_v87 : Ref sig .tc := ⟨.hbm, 119, rfl⟩
abbrev main_while0b_v88 : Ref sig .tc := ⟨.hbm, 120, rfl⟩
abbrev main_while0b_v89 : Ref sig .tc := ⟨.hbm, 121, rfl⟩
abbrev main_while0b_v90 : Ref sig .tc := ⟨.hbm, 122, rfl⟩
abbrev main_while0b_v91 : Ref sig .tc := ⟨.hbm, 123, rfl⟩
abbrev main_while0b_cst_17 : Ref sig .tc := ⟨.hbm, 124, rfl⟩
abbrev main_while0b_v92 : Ref sig .tc := ⟨.hbm, 125, rfl⟩
abbrev main_while0b_v93 : Ref sig .tc := ⟨.hbm, 126, rfl⟩
abbrev main_while0b_v94 : Ref sig .tc := ⟨.hbm, 127, rfl⟩
abbrev main_while0b_v95 : Ref sig .tc := ⟨.hbm, 128, rfl⟩
abbrev main_while0b_v96 : Ref sig .tc := ⟨.hbm, 129, rfl⟩
abbrev main_while0b_v97 : Ref sig .tc := ⟨.hbm, 130, rfl⟩
abbrev main_while0b_cst_18 : Ref sig .tc := ⟨.hbm, 131, rfl⟩
abbrev main_while0b_v98 : Ref sig .tc := ⟨.hbm, 132, rfl⟩
abbrev main_while0b_v99 : Ref sig .tc := ⟨.hbm, 133, rfl⟩
abbrev main_while0b_v100 : Ref sig .tc := ⟨.hbm, 134, rfl⟩
abbrev main_while0b_cst_19 : Ref sig .tc := ⟨.hbm, 135, rfl⟩
abbrev main_while0b_v101 : Ref sig .tc := ⟨.hbm, 136, rfl⟩
abbrev main_while0b_v102 : Ref sig .tc := ⟨.hbm, 137, rfl⟩
abbrev main_while0b_cst_20 : Ref sig .tc := ⟨.hbm, 138, rfl⟩
abbrev main_while0b_call6_v0 : Ref sig .tc := ⟨.hbm, 139, rfl⟩
abbrev main_while0b_call6_v1 : Ref sig .tc := ⟨.hbm, 140, rfl⟩
abbrev main_while0b_v103 : Ref sig .tc := ⟨.hbm, 141, rfl⟩
abbrev main_while0b_c_21 : Ref sig .tc := ⟨.hbm, 142, rfl⟩
abbrev main_while0b_v104 : Ref sig .tc := ⟨.hbm, 143, rfl⟩
abbrev main_while0b_v105 : Ref sig .tc := ⟨.hbm, 144, rfl⟩
abbrev main_while0b_c_22 : Ref sig .tc := ⟨.hbm, 145, rfl⟩
abbrev main_while0b_v106 : Ref sig .tc := ⟨.hbm, 146, rfl⟩
abbrev main_while0b_v107 : Ref sig .tc := ⟨.hbm, 147, rfl⟩
abbrev main_while0b_v108 : Ref sig .tc := ⟨.hbm, 148, rfl⟩
abbrev main_while0b_c_23 : Ref sig .tc := ⟨.hbm, 149, rfl⟩
abbrev main_while0b_v109 : Ref sig .tc := ⟨.hbm, 150, rfl⟩
abbrev main_while0b_v110 : Ref sig .tc := ⟨.hbm, 151, rfl⟩
abbrev main_while0b_c_24 : Ref sig .tc := ⟨.hbm, 152, rfl⟩
abbrev main_while0b_v111 : Ref sig .tc := ⟨.hbm, 153, rfl⟩
abbrev main_while0b_v112 : Ref sig .tc := ⟨.hbm, 154, rfl⟩
abbrev main_while0b_v113 : Ref sig .tc := ⟨.hbm, 155, rfl⟩
abbrev main_while0b_v114 : Ref sig .tc := ⟨.hbm, 156, rfl⟩
abbrev main_while0b_v115 : Ref sig .tc := ⟨.hbm, 157, rfl⟩
abbrev main_while0b_v116 : Ref sig .tc := ⟨.hbm, 158, rfl⟩
abbrev main_while0b_cst_25 : Ref sig .tc := ⟨.hbm, 159, rfl⟩
abbrev main_while0b_v117 : Ref sig .tc := ⟨.hbm, 160, rfl⟩
abbrev main_while0b_v118 : Ref sig .tc := ⟨.hbm, 161, rfl⟩
abbrev main_while0b_call7_v0 : Ref sig .tc := ⟨.hbm, 162, rfl⟩
abbrev main_while0b_call7_c : Ref sig .tc := ⟨.hbm, 163, rfl⟩
abbrev main_while0b_v119 : Ref sig .tc := ⟨.hbm, 164, rfl⟩
abbrev main_while0b_c_26 : Ref sig .tc := ⟨.hbm, 165, rfl⟩
abbrev main_while0b_v120 : Ref sig .tc := ⟨.hbm, 166, rfl⟩
abbrev main_v24 : Ref sig .tc := ⟨.hbm, 167, rfl⟩
abbrev main_c_5 : Ref sig .tc := ⟨.hbm, 168, rfl⟩
abbrev main_v25 : Ref sig .tc := ⟨.hbm, 169, rfl⟩
abbrev main_v26 : Ref sig .tc := ⟨.hbm, 170, rfl⟩
abbrev main_c_6 : Ref sig .tc := ⟨.hbm, 171, rfl⟩
abbrev main_v27 : Ref sig .tc := ⟨.hbm, 172, rfl⟩
abbrev main_v28 : Ref sig .tc := ⟨.hbm, 173, rfl⟩
abbrev main_v29 : Ref sig .tc := ⟨.hbm, 174, rfl⟩
abbrev main_v30 : Ref sig .tc := ⟨.hbm, 175, rfl⟩
abbrev main_v31 : Ref sig .tc := ⟨.hbm, 176, rfl⟩
abbrev main_v32 : Ref sig .tc := ⟨.hbm, 177, rfl⟩
abbrev main_v33 : Ref sig .tc := ⟨.hbm, 178, rfl⟩
abbrev main_v34 : Ref sig .tc := ⟨.hbm, 179, rfl⟩
abbrev main_v35 : Ref sig .tc := ⟨.hbm, 180, rfl⟩
abbrev main_call8_c : Ref sig .tc := ⟨.hbm, 181, rfl⟩
abbrev main_call8_v0 : Ref sig .tc := ⟨.hbm, 182, rfl⟩
abbrev main_call8_v1 : Ref sig .tc := ⟨.hbm, 183, rfl⟩
abbrev main_call8_c_0 : Ref sig .tc := ⟨.hbm, 184, rfl⟩
abbrev main_call8_v2 : Ref sig .tc := ⟨.hbm, 185, rfl⟩
abbrev main_call8_v3 : Ref sig .tc := ⟨.hbm, 186, rfl⟩
abbrev main_call8_v4 : Ref sig .tc := ⟨.hbm, 187, rfl⟩
abbrev main_v36 : Ref sig .tc := ⟨.hbm, 188, rfl⟩
abbrev main_v37 : Ref sig .tc := ⟨.hbm, 189, rfl⟩
abbrev main_v38 : Ref sig .tc := ⟨.hbm, 190, rfl⟩

abbrev nD : Nat := 1
abbrev τ : Topo := Topo.v7x

variable {F : FTy → Type} [FloatOps F]

abbrev main_while0_count : Scf.Loop 32 := ⟨0#32, 300#32, 1#32⟩
-- ==== Proof.KernelIdealTrip.lean ====
/-
  The second kernel call, one trip of its loop: the values a trip computes from the planes and the scores it finds, and
  the trip's triple.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Body

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! ## The boxes a trip reads and writes -/

/-- The whole score buffer. -/
abbrev rS : Rect S16x160x128 := Rect.unit (s := S16x160x128) ![0, 0, 0] S16x160x128.size inb_S16x160x128_S16x160x128_0_0_0
/-- The planes of the block. -/
abbrev q0 : Rect S1x16x11x160x128 := Rect.unit (s := S1x16x11x160x128) ![0, 0, 0, 0, 0] S1x16x1x160x128.size inb_S1x16x11x160x128_S1x16x1x160x128_0_0_0_0_0
abbrev q1 : Rect S1x16x11x160x128 := Rect.unit (s := S1x16x11x160x128) ![0, 0, 1, 0, 0] S1x16x1x160x128.size inb_S1x16x11x160x128_S1x16x1x160x128_0_0_1_0_0
abbrev q2 : Rect S1x16x11x160x128 := Rect.unit (s := S1x16x11x160x128) ![0, 0, 2, 0, 0] S1x16x1x160x128.size inb_S1x16x11x160x128_S1x16x1x160x128_0_0_2_0_0
abbrev q3 : Rect S1x16x11x160x128 := Rect.unit (s := S1x16x11x160x128) ![0, 0, 3, 0, 0] S1x16x1x160x128.size inb_S1x16x11x160x128_S1x16x1x160x128_0_0_3_0_0
abbrev q4 : Rect S1x16x11x160x128 := Rect.unit (s := S1x16x11x160x128) ![0, 0, 4, 0, 0] S1x16x1x160x128.size inb_S1x16x11x160x128_S1x16x1x160x128_0_0_4_0_0
abbrev q5 : Rect S1x16x11x160x128 := Rect.unit (s := S1x16x11x160x128) ![0, 0, 5, 0, 0] S1x16x1x160x128.size inb_S1x16x11x160x128_S1x16x1x160x128_0_0_5_0_0
abbrev q6 : Rect S1x16x11x160x128 := Rect.unit (s := S1x16x11x160x128) ![0, 0, 6, 0, 0] S1x16x1x160x128.size inb_S1x16x11x160x128_S1x16x1x160x128_0_0_6_0_0
abbrev q7 : Rect S1x16x11x160x128 := Rect.unit (s := S1x16x11x160x128) ![0, 0, 7, 0, 0] S1x16x1x160x128.size inb_S1x16x11x160x128_S1x16x1x160x128_0_0_7_0_0
abbrev q8 : Rect S1x16x11x160x128 := Rect.unit (s := S1x16x11x160x128) ![0, 0, 8, 0, 0] S1x16x1x160x128.size inb_S1x16x11x160x128_S1x16x1x160x128_0_0_8_0_0
abbrev q9 : Rect S1x16x11x160x128 := Rect.unit (s := S1x16x11x160x128) ![0, 0, 9, 0, 0] S1x16x1x160x128.size inb_S1x16x11x160x128_S1x16x1x160x128_0_0_9_0_0
abbrev q10 : Rect S1x16x11x160x128 := Rect.unit (s := S1x16x11x160x128) ![0, 0, 10, 0, 0] S1x16x1x160x128.size inb_S1x16x11x160x128_S1x16x1x160x128_0_0_10_0_0
/-- Row `k` of the output block. -/
abbrev rRow (k : Fin k1_t1_loop.trips) : Rect S1x16x304x8 := Rect.unit (s := S1x16x304x8) (k1_off1 k) S1x16x1x8.size (k1_off1_inb k)

/-! ## The values of one trip, from the block of planes `x` and the scores `s` -/

/-- Where the selected element sits, as a mask. -/
def selM (s : Vec F S16x160x128 .f32) : IVec S16x160x128 1 := k1_pay5 (k1_pay2) (View.ld s rS)
/-- The largest score. -/
def topS (s : Vec F S16x160x128 .f32) : FVec F S16x1x1 .f32 := k1_pay4 (View.ld s rS)
/-- The selected element's plain corners and class. -/
def selX1 (x : Vec F S1x16x11x160x128 .f32) (s : Vec F S16x160x128 .f32) : FVec F S16x1x1 .f32 := k1_pay6 (k1_pay2) (View.ld s rS) (View.ld x q1)
def selY1 (x : Vec F S1x16x11x160x128 .f32) (s : Vec F S16x160x128 .f32) : FVec F S16x1x1 .f32 := k1_pay7 (k1_pay2) (View.ld s rS) (View.ld x q2)
def selX2 (x : Vec F S1x16x11x160x128 .f32) (s : Vec F S16x160x128 .f32) : FVec F S16x1x1 .f32 := k1_pay8 (selM s) (View.ld x q3)
def selY2 (x : Vec F S1x16x11x160x128 .f32) (s : Vec F S16x160x128 .f32) : FVec F S16x1x1 .f32 := k1_pay9 (selM s) (View.ld x q4)
def selC (x : Vec F S1x16x11x160x128 .f32) (s : Vec F S16x160x128 .f32) : FVec F S16x1x1 .f32 := k1_pay10 (selM s) (View.ld x q9)
/-- Its shifted corners. -/
def selNx1 (x : Vec F S1x16x11x160x128 .f32) (s : Vec F S16x160x128 .f32) : FVec F S16x1x1 .f32 := k1_pay11 (selM s) (selX1 x s) (View.ld x q9)
def selNy1 (x : Vec F S1x16x11x160x128 .f32) (s : Vec F S16x160x128 .f32) : FVec F S16x1x1 .f32 := k1_pay12 (selM s) (selY1 x s) (View.ld x q9)
def selNx2 (x : Vec F S1x16x11x160x128 .f32) (s : Vec F S16x160x128 .f32) : FVec F S16x1x1 .f32 := k1_pay13 (selM s) (View.ld x q3) (View.ld x q9)
/-- The constants of the loop. -/
abbrev c640 : F .f32 := Scalar.ofBits .f32 0x44200000#32
abbrev cNeg : F .f32 := Scalar.ofBits .f32 0xFF800000#32
abbrev lane8 : IVec S1x1x8 32 := iota .tc S1x1x8 32 [2] iota_S1x1x8_d2_w32
/-- The selected box's area and the intersections with it. -/
def selA (x : Vec F S1x16x11x160x128 .f32) (s : Vec F S16x160x128 .f32) : FVec F S16x1x1 .f32 :=
  k1_pay15 (selY2 x s) (selC x s) (selNx1 x s) (selNy1 x s) (selNx2 x s) c640
def interS (x : Vec F S1x16x11x160x128 .f32) (s : Vec F S16x160x128 .f32) : FVec F S16x160x128 .f32 :=
  k1_pay16 (selY2 x s) (selC x s) (selNx1 x s) (selNy1 x s) (selNx2 x s) c640 (View.ld x q5) (View.ld x q6) (View.ld x q7) (View.ld x q8)
/-- The scores after the trip. -/
def nextS (x : Vec F S1x16x11x160x128 .f32) (s : Vec F S16x160x128 .f32) : FVec F S16x160x128 .f32 :=
  k1_pay17 cNeg (View.ld s rS) (selM s) (selA x s) (interS x s) (View.ld x q10)
/-- The row the trip writes. -/
def rowS (x : Vec F S1x16x11x160x128 .f32) (s : Vec F S16x160x128 .f32) : FVec F S1x16x1x8 .f32 :=
  k1_pay3 (selX1 x s) (selY1 x s) (selX2 x s) (selY2 x s) (k1_pay19 cNeg (topS s)) (k1_pay20 cNeg (topS s))
    (k1_pay21 lane8) (k1_pay22 lane8) (k1_pay23 lane8) (k1_pay24 lane8) (k1_pay25 lane8 (selC x s)) (k1_pay26 lane8)

/-- The scores before trip `k`: the first plane, then one trip after another. -/
def stS (x : Vec F S1x16x11x160x128 .f32) : ℕ → Vec F S16x160x128 .f32
  | 0 => k1_pay1 (View.ld x q0)
  | k + 1 => nextS x (stS x k)

/-! ## The triple -/

/-- What a trip owns: the planes' buffer, the output's and the scores'. -/
abbrev TripRes (c : Dev nD) (arg1 : Memref sig .tc .vmem S1x16x11x160x128 .f32) (arg2 : Memref sig .tc .vmem S1x16x304x8 .f32) (arg3 : Memref sig .tc .vmem S16x160x128 .f32)
    (g1 : BufTy.Contents (Elt F) arg1.view.ty) (g2 : BufTy.Contents (Elt F) arg2.view.ty) (g3 : BufTy.Contents (Elt F) arg3.view.ty) : sProp 𝕄 :=
  iprop((arg1.view.loc (c : Thread nD τ) ↦[arg1.view.set]{fullShare} g1) ∗ (arg2.view.loc (c : Thread nD τ) ↦[arg2.view.set]{fullShare} g2)
    ∗ (arg3.view.loc (c : Thread nD τ) ↦[arg3.view.set]{fullShare} g3))

theorem trip_run (c : Dev nD) (i : grid1.Coords) (arg1 : Memref sig .tc .vmem S1x16x11x160x128 .f32) (harg1 : arg1.IsWhole)
    (arg2 : Memref sig .tc .vmem S1x16x304x8 .f32) (harg2 : arg2.IsWhole) (arg3 : Memref sig .tc .vmem S16x160x128 .f32) (harg3 : arg3.IsWhole)
    (E : Set ℕ) (k : Fin k1_t1_loop.trips)
    (g1 : BufTy.Contents (Elt F) arg1.view.ty) (g2 : BufTy.Contents (Elt F) arg2.view.ty) (g3 : BufTy.Contents (Elt F) arg3.view.ty) :
    TripRes (F := F) c arg1 arg2 arg3 g1 g2 g3
      ⊢ wp frame (wpE (defs₀ (F := F)) Variants.none (c : Thread nD τ) none) E (k1_t1_body (F := F) i arg1 harg1 arg2 harg2 arg3 harg3 lane8 cNeg k PUnit.unit)
          (fun _ => TripRes (F := F) c arg1 arg2 arg3 g1
            (arg2.view.writes (Elt F) g2 [⟨rRow k, rowS (arg1.view.read (Elt F) g1) (arg3.view.read (Elt F) g3)⟩])
            (arg3.view.writes (Elt F) g3 [⟨rS, nextS (arg1.view.read (Elt F) g1) (arg3.view.read (Elt F) g3)⟩])) := by
  have hk : k.val < 300 := Nat.lt_of_lt_of_le k.isLt k1_t1_abs.2.1
  unfold k1_t1_body
  iintro ⟨H1, H2, H3⟩
  sl_exec
  sl_step
  isplitl [H1]; · iexact H1
  isplitl [H2]
  · iexact H2
  iexact H3

end Cert.KernelIdeal.Body

end
-- ==== Proof.KernelIdealLoop.lean ====
/-
  The second kernel call: its loop by an invariant, and the triple of the whole body. Of the output block only the first
  300 rows are stated; the body leaves the others as it finds them.
-/
module

public import proofs.«01_k».proof.Proof.KernelIdealTrip
public import Idealize.ShloMosaic.Lib.WordArith.Masks

@[expose] public section

set_option maxRecDepth 16384

noncomputable section

namespace Cert.KernelIdeal.Body

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

theorem trips_eq : Scf.trips k1_t1_loop.lb k1_t1_loop.ub k1_t1_loop.st = 300 := by decide +kernel

/-- The offsets of row `k`. -/
theorem off1_eq (k : Fin k1_t1_loop.trips) : k1_off1 k = ![0, 0, k.val, 0] := by
  have hk : k.val < 300 := Nat.lt_of_lt_of_le k.isLt k1_t1_abs.2.1
  unfold k1_off1
  show ![0, 0, (Scf.iv 0#32 1#32 k.val).toNat, 0] = _
  rw [WordArith.toNat_iv_zero_one k.val (by omega)]

/-- Two rows are apart. -/
theorem row_not_mem (k j : Fin k1_t1_loop.trips) (h : j.val ≠ k.val) (y : (rRow j).shape.Idx) : (rRow j).emb y ∉ (rRow k).set := by
  intro hm
  have := Rect.mem_set_unit.mp hm (2 : Fin 4)
  have e : (((rRow j).emb y) (2 : Fin 4) : Nat) = j.val + (y (2 : Fin 4) : Nat) := by
    rw [Rect.emb_apply]
    show k1_off1 j 2 + 1 * _ = _
    rw [off1_eq]
    show j.val + 1 * _ = _
    omega
  have hy : (y (2 : Fin 4) : Nat) < 1 := (y (2 : Fin 4)).isLt
  rw [e, off1_eq] at this
  have h1 : k.val ≤ j.val + (y (2 : Fin 4) : Nat) := this.1
  have h2 : j.val + (y (2 : Fin 4) : Nat) < k.val + 1 := this.2
  omega

/-- The first `n` rows of an output block are the trips' rows. -/
def RowsBelow (n : ℕ) (x : Vec F S1x16x11x160x128 .f32) (Y : Vec F S1x16x304x8 .f32) : Prop :=
  ∀ j : Fin k1_t1_loop.trips, j.val < n → ∀ y : (rRow j).shape.Idx, Y ((rRow j).emb y) = rowS x (stS x j.val) y

/-- A trip adds its row. -/
theorem rowsBelow_succ {sp : Space} (v : View sig .tc sp S1x16x304x8 .f32) (g : v.ty.Contents (Elt F)) (x : Vec F S1x16x11x160x128 .f32)
    (k : Fin k1_t1_loop.trips) (h : RowsBelow k.val x (v.read (Elt F) g)) :
    RowsBelow (k.val + 1) x (v.read (Elt F) (v.writes (Elt F) g [⟨rRow k, rowS x (stS x k.val)⟩])) := by
  intro j hj y
  by_cases e : j.val = k.val
  · obtain rfl : j = k := Fin.ext e
    exact View.read_writes_cons_emb v g (rRow j) _ [] y
  · rw [View.read_writes_apply_of_forall_not_mem v g _ _ (fun p hp => by
      obtain rfl := List.mem_singleton.mp hp
      exact row_not_mem k j e y)]
    exact h j (by omega) y

/-- The scores' buffer after a whole store reads what was stored. -/
theorem read_rS {sp : Space} (v : View sig .tc sp S16x160x128 .f32) (g : v.ty.Contents (Elt F)) (w : Vec F S16x160x128 .f32) :
    v.read (Elt F) (v.writes (Elt F) g [⟨rS, w⟩]) = w := by
  funext y
  have hz : (![0, 0, 0] : Fin 3 → ℕ) = fun _ => 0 := by decide
  have e := View.read_writes_cons_emb v g rS w [] y
  have hy : rS.emb y = y := by
    funext a
    refine Fin.ext ?_
    rw [Rect.emb_apply]
    show (![0, 0, 0] : Fin 3 → ℕ) a + 1 * (y a : ℕ) = _
    rw [hz]; show 0 + 1 * (y a : ℕ) = _; omega
  rwa [hy] at e

/-- The invariant before trip `k`. -/
def loopInv (c : Dev nD) (arg1 : Memref sig .tc .vmem S1x16x11x160x128 .f32) (arg2 : Memref sig .tc .vmem S1x16x304x8 .f32)
    (arg3 : Memref sig .tc .vmem S16x160x128 .f32) (g1 : BufTy.Contents (Elt F) arg1.view.ty) (k : ℕ) (_u : Unit) : sProp 𝕄 :=
  iprop((arg1.view.loc (c : Thread nD τ) ↦[arg1.view.set]{fullShare} g1)
    ∗ (∃ g2, ⌜RowsBelow k (arg1.view.read (Elt F) g1) (arg2.view.read (Elt F) g2)⌝ ∗ (arg2.view.loc (c : Thread nD τ) ↦[arg2.view.set]{fullShare} g2))
    ∗ (∃ g3, ⌜arg3.view.read (Elt F) g3 = stS (arg1.view.read (Elt F) g1) k⌝ ∗ (arg3.view.loc (c : Thread nD τ) ↦[arg3.view.set]{fullShare} g3)))

theorem loopStep (c : Dev nD) (i : grid1.Coords) (arg1 : Memref sig .tc .vmem S1x16x11x160x128 .f32) (harg1 : arg1.IsWhole)
    (arg2 : Memref sig .tc .vmem S1x16x304x8 .f32) (harg2 : arg2.IsWhole) (arg3 : Memref sig .tc .vmem S16x160x128 .f32) (harg3 : arg3.IsWhole)
    (E : Set ℕ) (g1 : BufTy.Contents (Elt F) arg1.view.ty) (k : Fin k1_t1_loop.trips) (u : Unit) :
    loopInv (F := F) c arg1 arg2 arg3 g1 k.val u
      ⊢ wp frame (wpE (defs₀ (F := F)) Variants.none (c : Thread nD τ) none) E (k1_t1_body (F := F) i arg1 harg1 arg2 harg2 arg3 harg3 lane8 cNeg k u)
          (loopInv (F := F) c arg1 arg2 arg3 g1 (k.val + 1)) := by
  unfold loopInv
  iintro ⟨H1, ⟨%g2, %h2, H2⟩, ⟨%g3, %h3, H3⟩⟩
  iapply (wp_wand_r Idealize.ShloMosaic.frame (wpE (defs₀ (F := F)) Variants.none (c : Thread nD τ) none) E)
  isplitl [H1 H2 H3]
  · iapply (trip_run (F := F) c i arg1 harg1 arg2 harg2 arg3 harg3 E k g1 g2 g3)
    isplitl [H1]; · iexact H1
    isplitl [H2]; · iexact H2
    iexact H3
  · iintro %_ ⟨H1, H2, H3⟩
    isplitl [H1]; · iexact H1
    isplitl [H2]
    · iexists _
      isplitr
      swap; · iexact H2
      ipureintro
      rw [h3]
      exact rowsBelow_succ arg2.view g2 _ k h2
    iexists _
    isplitr
    swap; · iexact H3
    ipureintro
    rw [read_rS, h3]; rfl

/-- What the body does before its loop: it fills the scores' buffer from the first plane. -/
def loopHead (arg1 : Memref sig .tc .vmem S1x16x11x160x128 .f32) (harg1 : arg1.IsWhole) (arg3 : Memref sig .tc .vmem S16x160x128 .f32)
    (harg3 : arg3.IsWhole) : Prog (TpuEff nD τ sig (Elt F) Λ₀ .tc) PUnit := do
  let v0 : Vec F S1x16x1x160x128 .f32 ← Prog.lift (.load arg1 q0.toLoadRect (View.loadsAt_vmem h_S1x16x1x160x128))
  let v2 : Vec F S16x160x128 .f32 ← Prog.lift (.load arg3 rS.toLoadRect (View.loadsAt_vmem h_S16x160x128))
  Prog.lift (.store arg3 rS (k1_pay1 v0) Finset.univ (View.stores_vmem_bits_univ h_S16x160x128 rfl) (.inl rfl))

theorem head_run (c : Dev nD) (E : Set ℕ) (arg1 : Memref sig .tc .vmem S1x16x11x160x128 .f32) (harg1 : arg1.IsWhole)
    (arg3 : Memref sig .tc .vmem S16x160x128 .f32) (harg3 : arg3.IsWhole)
    (g1 : BufTy.Contents (Elt F) arg1.view.ty) (g3 : BufTy.Contents (Elt F) arg3.view.ty) :
    (iprop((arg1.view.loc (c : Thread nD τ) ↦[arg1.view.set]{fullShare} g1) ∗ (arg3.view.loc (c : Thread nD τ) ↦[arg3.view.set]{fullShare} g3)) : sProp 𝕄)
      ⊢ wp frame (wpE (defs₀ (F := F)) Variants.none (c : Thread nD τ) none) E (loopHead (F := F) arg1 harg1 arg3 harg3)
          (fun _ => iprop((arg1.view.loc (c : Thread nD τ) ↦[arg1.view.set]{fullShare} g1)
            ∗ (arg3.view.loc (c : Thread nD τ) ↦[arg3.view.set]{fullShare}
                (arg3.view.writes (Elt F) g3 [⟨rS, k1_pay1 (View.ld (arg1.view.read (Elt F) g1) q0)⟩])))) := by
  unfold loopHead
  iintro ⟨H1, H3⟩
  sl_exec
  sl_step
  isplitl [H1]; · iexact H1
  iexact H3

theorem skel_eq (i : grid1.Coords) (arg1 : Memref sig .tc .vmem S1x16x11x160x128 .f32) (harg1 : arg1.IsWhole)
    (arg2 : Memref sig .tc .vmem S1x16x304x8 .f32) (harg2 : arg2.IsWhole) (arg3 : Memref sig .tc .vmem S16x160x128 .f32) (harg3 : arg3.IsWhole) :
    cc1__loop_body_skel (F := F) i arg1 harg1 arg2 harg2 arg3 harg3
      = (loopHead (F := F) arg1 harg1 arg3 harg3 >>= fun _ =>
          Scf.for k1_t1_loop.lb k1_t1_loop.ub k1_t1_loop.st k1_t1_ok () (k1_t1_body (F := F) i arg1 harg1 arg2 harg2 arg3 harg3 lane8 cNeg)
            >>= fun _ => pure ⟨⟩) := rfl

/-- The body on whole staging buffers: the planes' as it was, the output's with the trips' rows, the scores' at something. -/
theorem body_run (c : Dev nD) (E : Set ℕ) (i : grid1.Coords) (arg1 : Memref sig .tc .vmem S1x16x11x160x128 .f32) (harg1 : arg1.IsWhole)
    (arg2 : Memref sig .tc .vmem S1x16x304x8 .f32) (harg2 : arg2.IsWhole) (arg3 : Memref sig .tc .vmem S16x160x128 .f32) (harg3 : arg3.IsWhole)
    (x0 : Vec F S1x16x11x160x128 .f32) (K : PUnit → sProp 𝕄) :
    iprop(owns (c : Thread nD τ) arg1 fullShare x0 ∗ (∃ d, owns (c : Thread nD τ) arg2 fullShare d) ∗ (∃ d, owns (c : Thread nD τ) arg3 fullShare d)
        ∗ (iprop(owns (c : Thread nD τ) arg1 fullShare x0 ∗ (∃ X, ⌜RowsBelow 300 x0 X⌝ ∗ owns (c : Thread nD τ) arg2 fullShare X)
            ∗ (∃ d, owns (c : Thread nD τ) arg3 fullShare d)) -∗ K ⟨⟩))
      ⊢ wp frame (wpE (defs₀ (F := F)) Variants.none c none) E (cc1__loop_body i arg1 harg1 arg2 harg2 arg3 harg3) K := by
  rw [cc1__loop_body_eq_skeleton, skel_eq, wp_bind]
  unfold owns
  iintro ⟨⟨%f0, %hf0, H0⟩, ⟨%d1, %f1, -, H1⟩, ⟨%ds0, %fs0, -, HS0⟩, Hk⟩
  subst hf0
  iapply (wp_wand_r Idealize.ShloMosaic.frame (wpE (defs₀ (F := F)) Variants.none (c : Thread nD τ) none) E)
  isplitl [H0 HS0]
  · iapply (head_run (F := F) c E arg1 harg1 arg3 harg3 f0 fs0)
    isplitl [H0]; · iexact H0
    iexact HS0
  iintro %_ ⟨H0, HS0⟩
  iapply (Scf.wp_for_bind frame (wpE (defs₀ (F := F)) Variants.none (c : Thread nD τ) none) E k1_t1_loop.lb k1_t1_loop.ub k1_t1_loop.st k1_t1_ok ()
    (k1_t1_body (F := F) i arg1 harg1 arg2 harg2 arg3 harg3 lane8 cNeg) (loopInv (F := F) c arg1 arg2 arg3 f0)
    (loopStep c i arg1 harg1 arg2 harg2 arg3 harg3 E f0)) $$ [H0 H1 HS0]
  · unfold loopInv
    isplitl [H0]; · iexact H0
    isplitl [H1]
    · iexists _
      isplitr
      swap; · iexact H1
      ipureintro
      intro j hj; exact absurd hj (Nat.not_lt_zero _)
    iexists _
    isplitr
    swap; · iexact HS0
    ipureintro
    rw [read_rS]; rfl
  iintro %acc Hinv
  rw [trips_eq]
  unfold loopInv
  icases Hinv with ⟨H0, ⟨%g2, %h2, H1⟩, ⟨%g3, %h3, HS0⟩⟩
  sl_step
  iapply Hk
  isplitl [H0]
  · iexists _; isplitr; swap; · iexact H0
    ipureintro; rfl
  isplitl [H1]
  · iexists _; isplitr; swap
    · iexists _; isplitr; swap; · iexact H1
      ipureintro; rfl
    ipureintro; exact h2
  iexists _, _; isplitr; swap; · iexact HS0
  ipureintro; rfl

end Cert.KernelIdeal.Body

end
-- ==== Proof.KernelIdealPrep.lean ====
/-
  The first kernel call: what one run of its body leaves in the block of planes, as a function of the block of
  predictions it reads, and the body obligation of its pipeline at any entry contents.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Body

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section Regions
-- the buffers when a call starts
variable (V : (c : Dev nD) → (b : Ref sig .tc) → Buf (Elt F) ((c : Thread nD τ).loc b))

/-! # The first call -/

/-! ## The windows' blocks -/

/-- The block of window `w` at grid point `t`, cut from its array. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input's buffer holds its block at every grid point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S1x84x160x128 := Rect.unit (s := S1x84x160x128) ![0, 4, 0, 0] S1x1x160x128.size inb_S1x84x160x128_S1x1x160x128_0_4_0_0
abbrev r0_1 : Rect S1x84x160x128 := Rect.unit (s := S1x84x160x128) ![0, 5, 0, 0] S1x1x160x128.size inb_S1x84x160x128_S1x1x160x128_0_5_0_0
abbrev r0_2 : Rect S1x84x160x128 := Rect.unit (s := S1x84x160x128) ![0, 6, 0, 0] S1x1x160x128.size inb_S1x84x160x128_S1x1x160x128_0_6_0_0
abbrev r0_3 : Rect S1x84x160x128 := Rect.unit (s := S1x84x160x128) ![0, 7, 0, 0] S1x1x160x128.size inb_S1x84x160x128_S1x1x160x128_0_7_0_0
abbrev r0_4 : Rect S1x84x160x128 := Rect.unit (s := S1x84x160x128) ![0, 8, 0, 0] S1x1x160x128.size inb_S1x84x160x128_S1x1x160x128_0_8_0_0
abbrev r0_5 : Rect S1x84x160x128 := Rect.unit (s := S1x84x160x128) ![0, 9, 0, 0] S1x1x160x128.size inb_S1x84x160x128_S1x1x160x128_0_9_0_0
abbrev r0_6 : Rect S1x84x160x128 := Rect.unit (s := S1x84x160x128) ![0, 10, 0, 0] S1x1x160x128.size inb_S1x84x160x128_S1x1x160x128_0_10_0_0
abbrev r0_7 : Rect S1x84x160x128 := Rect.unit (s := S1x84x160x128) ![0, 11, 0, 0] S1x1x160x128.size inb_S1x84x160x128_S1x1x160x128_0_11_0_0
abbrev r0_8 : Rect S1x84x160x128 := Rect.unit (s := S1x84x160x128) ![0, 12, 0, 0] S1x1x160x128.size inb_S1x84x160x128_S1x1x160x128_0_12_0_0
abbrev r0_9 : Rect S1x84x160x128 := Rect.unit (s := S1x84x160x128) ![0, 13, 0, 0] S1x1x160x128.size inb_S1x84x160x128_S1x1x160x128_0_13_0_0
abbrev r0_10 : Rect S1x84x160x128 := Rect.unit (s := S1x84x160x128) ![0, 14, 0, 0] S1x1x160x128.size inb_S1x84x160x128_S1x1x160x128_0_14_0_0
abbrev r0_11 : Rect S1x84x160x128 := Rect.unit (s := S1x84x160x128) ![0, 15, 0, 0] S1x1x160x128.size inb_S1x84x160x128_S1x1x160x128_0_15_0_0
abbrev r0_12 : Rect S1x84x160x128 := Rect.unit (s := S1x84x160x128) ![0, 16, 0, 0] S1x1x160x128.size inb_S1x84x160x128_S1x1x160x128_0_16_0_0
abbrev r0_13 : Rect S1x84x160x128 := Rect.unit (s := S1x84x160x128) ![0, 17, 0, 0] S1x1x160x128.size inb_S1x84x160x128_S1x1x160x128_0_17_0_0
abbrev r0_14 : Rect S1x84x160x128 := Rect.unit (s := S1x84x160x128) ![0, 18, 0, 0] S1x1x160x128.size inb_S1x84x160x128_S1x1x160x128_0_18_0_0
abbrev r0_15 : Rect S1x84x160x128 := Rect.unit (s := S1x84x160x128) ![0, 19, 0, 0] S1x1x160x128.size inb_S1x84x160x128_S1x1x160x128_0_19_0_0
abbrev r0_16 : Rect S1x84x160x128 := Rect.unit (s := S1x84x160x128) ![0, 20, 0, 0] S1x1x160x128.size inb_S1x84x160x128_S1x1x160x128_0_20_0_0
abbrev r0_17 : Rect S1x84x160x128 := Rect.unit (s := S1x84x160x128) ![0, 21, 0, 0] S1x1x160x128.size inb_S1x84x160x128_S1x1x160x128_0_21_0_0
abbrev r0_18 : Rect S1x84x160x128 := Rect.unit (s := S1x84x160x128) ![0, 22, 0, 0] S1x1x160x128.size inb_S1x84x160x128_S1x1x160x128_0_22_0_0
abbrev r0_19 : Rect S1x84x160x128 := Rect.unit (s := S1x84x160x128) ![0, 23, 0, 0] S1x1x160x128.size inb_S1x84x160x128_S1x1x160x128_0_23_0_0
abbrev r0_20 : Rect S1x84x160x128 := Rect.unit (s := S1x84x160x128) ![0, 24, 0, 0] S1x1x160x128.size inb_S1x84x160x128_S1x1x160x128_0_24_0_0
abbrev r0_21 : Rect S1x84x160x128 := Rect.unit (s := S1x84x160x128) ![0, 25, 0, 0] S1x1x160x128.size inb_S1x84x160x128_S1x1x160x128_0_25_0_0
abbrev r0_22 : Rect S1x84x160x128 := Rect.unit (s := S1x84x160x128) ![0, 26, 0, 0] S1x1x160x128.size inb_S1x84x160x128_S1x1x160x128_0_26_0_0
abbrev r0_23 : Rect S1x84x160x128 := Rect.unit (s := S1x84x160x128) ![0, 27, 0, 0] S1x1x160x128.size inb_S1x84x160x128_S1x1x160x128_0_27_0_0
abbrev r0_24 : Rect S1x84x160x128 := Rect.unit (s := S1x84x160x128) ![0, 28, 0, 0] S1x1x160x128.size inb_S1x84x160x128_S1x1x160x128_0_28_0_0
abbrev r0_25 : Rect S1x84x160x128 := Rect.unit (s := S1x84x160x128) ![0, 29, 0, 0] S1x1x160x128.size inb_S1x84x160x128_S1x1x160x128_0_29_0_0
abbrev r0_26 : Rect S1x84x160x128 := Rect.unit (s := S1x84x160x128) ![0, 30, 0, 0] S1x1x160x128.size inb_S1x84x160x128_S1x1x160x128_0_30_0_0
abbrev r0_27 : Rect S1x84x160x128 := Rect.unit (s := S1x84x160x128) ![0, 31, 0, 0] S1x1x160x128.size inb_S1x84x160x128_S1x1x160x128_0_31_0_0
abbrev r0_28 : Rect S1x84x160x128 := Rect.unit (s := S1x84x160x128) ![0, 32, 0, 0] S1x1x160x128.size inb_S1x84x160x128_S1x1x160x128_0_32_0_0
abbrev r0_29 : Rect S1x84x160x128 := Rect.unit (s := S1x84x160x128) ![0, 33, 0, 0] S1x1x160x128.size inb_S1x84x160x128_S1x1x160x128_0_33_0_0
abbrev r0_30 : Rect S1x84x160x128 := Rect.unit (s := S1x84x160x128) ![0, 34, 0, 0] S1x1x160x128.size inb_S1x84x160x128_S1x1x160x128_0_34_0_0
abbrev r0_31 : Rect S1x84x160x128 := Rect.unit (s := S1x84x160x128) ![0, 35, 0, 0] S1x1x160x128.size inb_S1x84x160x128_S1x1x160x128_0_35_0_0
abbrev r0_32 : Rect S1x84x160x128 := Rect.unit (s := S1x84x160x128) ![0, 36, 0, 0] S1x1x160x128.size inb_S1x84x160x128_S1x1x160x128_0_36_0_0
abbrev r0_33 : Rect S1x84x160x128 := Rect.unit (s := S1x84x160x128) ![0, 37, 0, 0] S1x1x160x128.size inb_S1x84x160x128_S1x1x160x128_0_37_0_0
abbrev r0_34 : Rect S1x84x160x128 := Rect.unit (s := S1x84x160x128) ![0, 38, 0, 0] S1x1x160x128.size inb_S1x84x160x128_S1x1x160x128_0_38_0_0
abbrev r0_35 : Rect S1x84x160x128 := Rect.unit (s := S1x84x160x128) ![0, 39, 0, 0] S1x1x160x128.size inb_S1x84x160x128_S1x1x160x128_0_39_0_0
abbrev r0_36 : Rect S1x84x160x128 := Rect.unit (s := S1x84x160x128) ![0, 40, 0, 0] S1x1x160x128.size inb_S1x84x160x128_S1x1x160x128_0_40_0_0
abbrev r0_37 : Rect S1x84x160x128 := Rect.unit (s := S1x84x160x128) ![0, 41, 0, 0] S1x1x160x128.size inb_S1x84x160x128_S1x1x160x128_0_41_0_0
abbrev r0_38 : Rect S1x84x160x128 := Rect.unit (s := S1x84x160x128) ![0, 42, 0, 0] S1x1x160x128.size inb_S1x84x160x128_S1x1x160x128_0_42_0_0
abbrev r0_39 : Rect S1x84x160x128 := Rect.unit (s := S1x84x160x128) ![0, 43, 0, 0] S1x1x160x128.size inb_S1x84x160x128_S1x1x160x128_0_43_0_0
abbrev r0_40 : Rect S1x84x160x128 := Rect.unit (s := S1x84x160x128) ![0, 44, 0, 0] S1x1x160x128.size inb_S1x84x160x128_S1x1x160x128_0_44_0_0
abbrev r0_41 : Rect S1x84x160x128 := Rect.unit (s := S1x84x160x128) ![0, 45, 0, 0] S1x1x160x128.size inb_S1x84x160x128_S1x1x160x128_0_45_0_0
abbrev r0_42 : Rect S1x84x160x128 := Rect.unit (s := S1x84x160x128) ![0, 46, 0, 0] S1x1x160x128.size inb_S1x84x160x128_S1x1x160x128_0_46_0_0
abbrev r0_43 : Rect S1x84x160x128 := Rect.unit (s := S1x84x160x128) ![0, 47, 0, 0] S1x1x160x128.size inb_S1x84x160x128_S1x1x160x128_0_47_0_0
abbrev r0_44 : Rect S1x84x160x128 := Rect.unit (s := S1x84x160x128) ![0, 48, 0, 0] S1x1x160x128.size inb_S1x84x160x128_S1x1x160x128_0_48_0_0
abbrev r0_45 : Rect S1x84x160x128 := Rect.unit (s := S1x84x160x128) ![0, 49, 0, 0] S1x1x160x128.size inb_S1x84x160x128_S1x1x160x128_0_49_0_0
abbrev r0_46 : Rect S1x84x160x128 := Rect.unit (s := S1x84x160x128) ![0, 50, 0, 0] S1x1x160x128.size inb_S1x84x160x128_S1x1x160x128_0_50_0_0
abbrev r0_47 : Rect S1x84x160x128 := Rect.unit (s := S1x84x160x128) ![0, 51, 0, 0] S1x1x160x128.size inb_S1x84x160x128_S1x1x160x128_0_51_0_0
abbrev r0_48 : Rect S1x84x160x128 := Rect.unit (s := S1x84x160x128) ![0, 52, 0, 0] S1x1x160x128.size inb_S1x84x160x128_S1x1x160x128_0_52_0_0
abbrev r0_49 : Rect S1x84x160x128 := Rect.unit (s := S1x84x160x128) ![0, 53, 0, 0] S1x1x160x128.size inb_S1x84x160x128_S1x1x160x128_0_53_0_0
abbrev r0_50 : Rect S1x84x160x128 := Rect.unit (s := S1x84x160x128) ![0, 54, 0, 0] S1x1x160x128.size inb_S1x84x160x128_S1x1x160x128_0_54_0_0
abbrev r0_51 : Rect S1x84x160x128 := Rect.unit (s := S1x84x160x128) ![0, 55, 0, 0] S1x1x160x128.size inb_S1x84x160x128_S1x1x160x128_0_55_0_0
abbrev r0_52 : Rect S1x84x160x128 := Rect.unit (s := S1x84x160x128) ![0, 56, 0, 0] S1x1x160x128.size inb_S1x84x160x128_S1x1x160x128_0_56_0_0
abbrev r0_53 : Rect S1x84x160x128 := Rect.unit (s := S1x84x160x128) ![0, 57, 0, 0] S1x1x160x128.size inb_S1x84x160x128_S1x1x160x128_0_57_0_0
abbrev r0_54 : Rect S1x84x160x128 := Rect.unit (s := S1x84x160x128) ![0, 58, 0, 0] S1x1x160x128.size inb_S1x84x160x128_S1x1x160x128_0_58_0_0
abbrev r0_55 : Rect S1x84x160x128 := Rect.unit (s := S1x84x160x128) ![0, 59, 0, 0] S1x1x160x128.size inb_S1x84x160x128_S1x1x160x128_0_59_0_0
abbrev r0_56 : Rect S1x84x160x128 := Rect.unit (s := S1x84x160x128) ![0, 60, 0, 0] S1x1x160x128.size inb_S1x84x160x128_S1x1x160x128_0_60_0_0
abbrev r0_57 : Rect S1x84x160x128 := Rect.unit (s := S1x84x160x128) ![0, 61, 0, 0] S1x1x160x128.size inb_S1x84x160x128_S1x1x160x128_0_61_0_0
abbrev r0_58 : Rect S1x84x160x128 := Rect.unit (s := S1x84x160x128) ![0, 62, 0, 0] S1x1x160x128.size inb_S1x84x160x128_S1x1x160x128_0_62_0_0
abbrev r0_59 : Rect S1x84x160x128 := Rect.unit (s := S1x84x160x128) ![0, 63, 0, 0] S1x1x160x128.size inb_S1x84x160x128_S1x1x160x128_0_63_0_0
abbrev r0_60 : Rect S1x84x160x128 := Rect.unit (s := S1x84x160x128) ![0, 64, 0, 0] S1x1x160x128.size inb_S1x84x160x128_S1x1x160x128_0_64_0_0
abbrev r0_61 : Rect S1x84x160x128 := Rect.unit (s := S1x84x160x128) ![0, 65, 0, 0] S1x1x160x128.size inb_S1x84x160x128_S1x1x160x128_0_65_0_0
abbrev r0_62 : Rect S1x84x160x128 := Rect.unit (s := S1x84x160x128) ![0, 66, 0, 0] S1x1x160x128.size inb_S1x84x160x128_S1x1x160x128_0_66_0_0
abbrev r0_63 : Rect S1x84x160x128 := Rect.unit (s := S1x84x160x128) ![0, 67, 0, 0] S1x1x160x128.size inb_S1x84x160x128_S1x1x160x128_0_67_0_0
abbrev r0_64 : Rect S1x84x160x128 := Rect.unit (s := S1x84x160x128) ![0, 68, 0, 0] S1x1x160x128.size inb_S1x84x160x128_S1x1x160x128_0_68_0_0
abbrev r0_65 : Rect S1x84x160x128 := Rect.unit (s := S1x84x160x128) ![0, 69, 0, 0] S1x1x160x128.size inb_S1x84x160x128_S1x1x160x128_0_69_0_0
abbrev r0_66 : Rect S1x84x160x128 := Rect.unit (s := S1x84x160x128) ![0, 70, 0, 0] S1x1x160x128.size inb_S1x84x160x128_S1x1x160x128_0_70_0_0
abbrev r0_67 : Rect S1x84x160x128 := Rect.unit (s := S1x84x160x128) ![0, 71, 0, 0] S1x1x160x128.size inb_S1x84x160x128_S1x1x160x128_0_71_0_0
abbrev r0_68 : Rect S1x84x160x128 := Rect.unit (s := S1x84x160x128) ![0, 72, 0, 0] S1x1x160x128.size inb_S1x84x160x128_S1x1x160x128_0_72_0_0
abbrev r0_69 : Rect S1x84x160x128 := Rect.unit (s := S1x84x160x128) ![0, 73, 0, 0] S1x1x160x128.size inb_S1x84x160x128_S1x1x160x128_0_73_0_0
abbrev r0_70 : Rect S1x84x160x128 := Rect.unit (s := S1x84x160x128) ![0, 74, 0, 0] S1x1x160x128.size inb_S1x84x160x128_S1x1x160x128_0_74_0_0
abbrev r0_71 : Rect S1x84x160x128 := Rect.unit (s := S1x84x160x128) ![0, 75, 0, 0] S1x1x160x128.size inb_S1x84x160x128_S1x1x160x128_0_75_0_0
abbrev r0_72 : Rect S1x84x160x128 := Rect.unit (s := S1x84x160x128) ![0, 76, 0, 0] S1x1x160x128.size inb_S1x84x160x128_S1x1x160x128_0_76_0_0
abbrev r0_73 : Rect S1x84x160x128 := Rect.unit (s := S1x84x160x128) ![0, 77, 0, 0] S1x1x160x128.size inb_S1x84x160x128_S1x1x160x128_0_77_0_0
abbrev r0_74 : Rect S1x84x160x128 := Rect.unit (s := S1x84x160x128) ![0, 78, 0, 0] S1x1x160x128.size inb_S1x84x160x128_S1x1x160x128_0_78_0_0
abbrev r0_75 : Rect S1x84x160x128 := Rect.unit (s := S1x84x160x128) ![0, 79, 0, 0] S1x1x160x128.size inb_S1x84x160x128_S1x1x160x128_0_79_0_0
abbrev r0_76 : Rect S1x84x160x128 := Rect.unit (s := S1x84x160x128) ![0, 80, 0, 0] S1x1x160x128.size inb_S1x84x160x128_S1x1x160x128_0_80_0_0
abbrev r0_77 : Rect S1x84x160x128 := Rect.unit (s := S1x84x160x128) ![0, 81, 0, 0] S1x1x160x128.size inb_S1x84x160x128_S1x1x160x128_0_81_0_0
abbrev r0_78 : Rect S1x84x160x128 := Rect.unit (s := S1x84x160x128) ![0, 82, 0, 0] S1x1x160x128.size inb_S1x84x160x128_S1x1x160x128_0_82_0_0
abbrev r0_79 : Rect S1x84x160x128 := Rect.unit (s := S1x84x160x128) ![0, 83, 0, 0] S1x1x160x128.size inb_S1x84x160x128_S1x1x160x128_0_83_0_0
abbrev r0_80 : Rect S1x84x160x128 := Rect.unit (s := S1x84x160x128) ![0, 0, 0, 0] S1x1x160x128.size inb_S1x84x160x128_S1x1x160x128_0_0_0_0
abbrev r0_81 : Rect S1x84x160x128 := Rect.unit (s := S1x84x160x128) ![0, 1, 0, 0] S1x1x160x128.size inb_S1x84x160x128_S1x1x160x128_0_1_0_0
abbrev r0_82 : Rect S1x84x160x128 := Rect.unit (s := S1x84x160x128) ![0, 2, 0, 0] S1x1x160x128.size inb_S1x84x160x128_S1x1x160x128_0_2_0_0
abbrev r0_83 : Rect S1x84x160x128 := Rect.unit (s := S1x84x160x128) ![0, 3, 0, 0] S1x1x160x128.size inb_S1x84x160x128_S1x1x160x128_0_3_0_0
abbrev r0_84 : Rect S1x11x160x128 := Rect.unit (s := S1x11x160x128) ![0, 0, 0, 0] S1x1x160x128.size inb_S1x11x160x128_S1x1x160x128_0_0_0_0
abbrev r0_85 : Rect S1x11x160x128 := Rect.unit (s := S1x11x160x128) ![0, 1, 0, 0] S1x1x160x128.size inb_S1x11x160x128_S1x1x160x128_0_1_0_0
abbrev r0_86 : Rect S1x11x160x128 := Rect.unit (s := S1x11x160x128) ![0, 2, 0, 0] S1x1x160x128.size inb_S1x11x160x128_S1x1x160x128_0_2_0_0
abbrev r0_87 : Rect S1x11x160x128 := Rect.unit (s := S1x11x160x128) ![0, 3, 0, 0] S1x1x160x128.size inb_S1x11x160x128_S1x1x160x128_0_3_0_0
abbrev r0_88 : Rect S1x11x160x128 := Rect.unit (s := S1x11x160x128) ![0, 4, 0, 0] S1x1x160x128.size inb_S1x11x160x128_S1x1x160x128_0_4_0_0
abbrev r0_89 : Rect S1x11x160x128 := Rect.unit (s := S1x11x160x128) ![0, 5, 0, 0] S1x1x160x128.size inb_S1x11x160x128_S1x1x160x128_0_5_0_0
abbrev r0_90 : Rect S1x11x160x128 := Rect.unit (s := S1x11x160x128) ![0, 6, 0, 0] S1x1x160x128.size inb_S1x11x160x128_S1x1x160x128_0_6_0_0
abbrev r0_91 : Rect S1x11x160x128 := Rect.unit (s := S1x11x160x128) ![0, 7, 0, 0] S1x1x160x128.size inb_S1x11x160x128_S1x1x160x128_0_7_0_0
abbrev r0_92 : Rect S1x11x160x128 := Rect.unit (s := S1x11x160x128) ![0, 8, 0, 0] S1x1x160x128.size inb_S1x11x160x128_S1x1x160x128_0_8_0_0
abbrev r0_93 : Rect S1x11x160x128 := Rect.unit (s := S1x11x160x128) ![0, 9, 0, 0] S1x1x160x128.size inb_S1x11x160x128_S1x1x160x128_0_9_0_0
abbrev r0_94 : Rect S1x11x160x128 := Rect.unit (s := S1x11x160x128) ![0, 10, 0, 0] S1x1x160x128.size inb_S1x11x160x128_S1x1x160x128_0_10_0_0

/-! ## What the body leaves in its output block -/

/-! ### Values of the body that it uses more than once -/

def k0_pay68 (x0 : Vec F S1x84x160x128 .f32) : FVec F S160x128 .f32 :=
  k0_pay12 (k0_pay11 (k0_pay10 (k0_pay9 (k0_pay7 (k0_pay6 (k0_pay5 (k0_pay4 (k0_pay3 (View.ld x0 r0_0) (View.ld x0 r0_1) (View.ld x0 r0_2) (View.ld x0 r0_3) (View.ld x0 r0_4) (View.ld x0 r0_5) (View.ld x0 r0_6) (View.ld x0 r0_7)) (View.ld x0 r0_8) (View.ld x0 r0_9) (View.ld x0 r0_10) (View.ld x0 r0_11) (View.ld x0 r0_12) (View.ld x0 r0_13) (View.ld x0 r0_14) (View.ld x0 r0_15) (View.ld x0 r0_16)) (View.ld x0 r0_17) (View.ld x0 r0_18) (View.ld x0 r0_19) (View.ld x0 r0_20) (View.ld x0 r0_21) (View.ld x0 r0_22) (View.ld x0 r0_23) (View.ld x0 r0_24)) (View.ld x0 r0_25) (View.ld x0 r0_26) (View.ld x0 r0_27) (View.ld x0 r0_28) (View.ld x0 r0_29) (View.ld x0 r0_30) (View.ld x0 r0_31) (View.ld x0 r0_32) (View.ld x0 r0_33)) (View.ld x0 r0_34) (View.ld x0 r0_35) (View.ld x0 r0_36) (View.ld x0 r0_37) (View.ld x0 r0_38) (View.ld x0 r0_39) (View.ld x0 r0_40) (View.ld x0 r0_41)) (k0_pay8 (View.ld x0 r0_42)) (View.ld x0 r0_43) (View.ld x0 r0_44) (View.ld x0 r0_45) (View.ld x0 r0_46) (View.ld x0 r0_47) (View.ld x0 r0_48) (View.ld x0 r0_49) (View.ld x0 r0_50)) (View.ld x0 r0_51) (View.ld x0 r0_52) (View.ld x0 r0_53) (View.ld x0 r0_54) (View.ld x0 r0_55) (View.ld x0 r0_56) (View.ld x0 r0_57) (View.ld x0 r0_58) (View.ld x0 r0_59)) (View.ld x0 r0_60) (View.ld x0 r0_61) (View.ld x0 r0_62) (View.ld x0 r0_63) (View.ld x0 r0_64) (View.ld x0 r0_65) (View.ld x0 r0_66) (View.ld x0 r0_67)) (View.ld x0 r0_68) (View.ld x0 r0_69) (View.ld x0 r0_70) (View.ld x0 r0_71) (View.ld x0 r0_72) (View.ld x0 r0_73) (View.ld x0 r0_74) (View.ld x0 r0_75) (View.ld x0 r0_76) -- `v229`
def k0_pay69 (x0 : Vec F S1x84x160x128 .f32) : FVec F S160x128 .f32 :=
  k0_pay13 (k0_pay68 x0) (View.ld x0 r0_77) (View.ld x0 r0_78) (View.ld x0 r0_79) -- `v238`
def k0_pay70 (x0 : Vec F S1x84x160x128 .f32) : FVec F S160x128 .f32 :=
  k0_pay45 (k0_pay69 x0) (k0_pay42 (k0_pay69 x0) (k0_pay41 (k0_pay69 x0) (k0_pay39 (k0_pay69 x0) (k0_pay37 (k0_pay69 x0) (k0_pay36 (k0_pay69 x0) (k0_pay34 (k0_pay69 x0) (k0_pay33 (k0_pay69 x0) (k0_pay31 (k0_pay69 x0) (k0_pay27 (k0_pay69 x0) (k0_pay26 (k0_pay69 x0) (k0_pay24 (k0_pay69 x0) (k0_pay23 (k0_pay69 x0) (k0_pay22 (k0_pay69 x0) (k0_pay19 (k0_pay69 x0) (k0_pay18 (k0_pay69 x0) (k0_pay16 (k0_pay69 x0) (k0_pay14 (k0_pay68 x0) (View.ld x0 r0_77) (View.ld x0 r0_78) (View.ld x0 r0_79) (View.ld x0 r0_0) (View.ld x0 r0_1)) (k0_pay15 (k0_pay68 x0) (View.ld x0 r0_77) (View.ld x0 r0_78) (View.ld x0 r0_79) (View.ld x0 r0_2)) (View.ld x0 r0_3) (View.ld x0 r0_4) (View.ld x0 r0_5) (View.ld x0 r0_6)) (k0_pay17 (k0_pay69 x0) (View.ld x0 r0_7)) (View.ld x0 r0_8) (View.ld x0 r0_9) (View.ld x0 r0_10) (View.ld x0 r0_11)) (View.ld x0 r0_12) (View.ld x0 r0_13) (View.ld x0 r0_14) (View.ld x0 r0_15)) (k0_pay20 (k0_pay69 x0) (View.ld x0 r0_16)) 80#32 k0_pay21 (View.ld x0 r0_17) (View.ld x0 r0_18) (View.ld x0 r0_19) (View.ld x0 r0_20)) (View.ld x0 r0_21) (View.ld x0 r0_22) (View.ld x0 r0_23) (View.ld x0 r0_24) (View.ld x0 r0_25)) (View.ld x0 r0_26) (View.ld x0 r0_27) (View.ld x0 r0_28) (View.ld x0 r0_29)) (k0_pay25 (k0_pay69 x0) (View.ld x0 r0_30)) 30#32 (View.ld x0 r0_31) (View.ld x0 r0_32) (View.ld x0 r0_33) (View.ld x0 r0_34)) (View.ld x0 r0_35) (View.ld x0 r0_36) (View.ld x0 r0_37) (View.ld x0 r0_38)) (k0_pay28 (k0_pay69 x0) (View.ld x0 r0_39)) k0_pay29 k0_pay30 (View.ld x0 r0_40) (View.ld x0 r0_41) (View.ld x0 r0_42) (View.ld x0 r0_43)) (k0_pay32 (View.ld x0 r0_44)) (View.ld x0 r0_45) (View.ld x0 r0_46) (View.ld x0 r0_47) (View.ld x0 r0_48)) (View.ld x0 r0_49) (View.ld x0 r0_50) (View.ld x0 r0_51) (View.ld x0 r0_52)) (k0_pay35 (k0_pay69 x0) (View.ld x0 r0_53)) 53#32 80#32 (View.ld x0 r0_54) (View.ld x0 r0_55) (View.ld x0 r0_56) (View.ld x0 r0_57)) (View.ld x0 r0_58) (View.ld x0 r0_59) (View.ld x0 r0_60) (View.ld x0 r0_61)) (k0_pay38 (k0_pay69 x0) (View.ld x0 r0_62)) (View.ld x0 r0_63) (View.ld x0 r0_64) (View.ld x0 r0_65) (View.ld x0 r0_66)) (k0_pay40 (k0_pay69 x0) (View.ld x0 r0_67)) (View.ld x0 r0_68) (View.ld x0 r0_69) (View.ld x0 r0_70) (View.ld x0 r0_71)) (View.ld x0 r0_72) (View.ld x0 r0_73) (View.ld x0 r0_74) (View.ld x0 r0_75)) (k0_pay43 (k0_pay69 x0) (View.ld x0 r0_76)) 80#32 k0_pay44 (View.ld x0 r0_77) (View.ld x0 r0_78) (View.ld x0 r0_79) -- `v800`
def k0_pay71 (x0 : Vec F S1x84x160x128 .f32) : FVec F S160x128 .f32 :=
  k0_pay46 (View.ld x0 r0_80) -- `v802`
def k0_pay72 (x0 : Vec F S1x84x160x128 .f32) : FVec F S160x128 .f32 :=
  k0_pay47 (View.ld x0 r0_81) -- `v804`

/-- The output block after the body: its eleven stores, the last first, each with the value it writes. -/
def out0_1 (x0 : Vec F S1x84x160x128 .f32) : Vec F S1x11x160x128 .f32 :=
  View.canon [⟨r0_94, k0_pay2 (k0_pay58 (k0_pay70 x0) (k0_pay71 x0) (k0_pay72 x0) (View.ld x0 r0_82) (View.ld x0 r0_83))⟩,
    ⟨r0_93, k0_pay1 (k0_pay70 x0)⟩,
    ⟨r0_92, k0_pay67 (k0_pay57 (k0_pay70 x0) (k0_pay72 x0) (View.ld x0 r0_83))⟩,
    ⟨r0_91, k0_pay66 (k0_pay56 (k0_pay70 x0) (k0_pay71 x0) (View.ld x0 r0_82))⟩,
    ⟨r0_90, k0_pay65 (k0_pay55 (k0_pay70 x0) (k0_pay72 x0) (View.ld x0 r0_83))⟩,
    ⟨r0_89, k0_pay64 (k0_pay54 (k0_pay70 x0) (k0_pay71 x0) (View.ld x0 r0_82))⟩,
    ⟨r0_88, k0_pay63 (k0_pay53 (k0_pay72 x0) (View.ld x0 r0_83))⟩,
    ⟨r0_87, k0_pay62 (k0_pay52 (k0_pay71 x0) (View.ld x0 r0_82))⟩,
    ⟨r0_86, k0_pay61 (k0_pay51 (k0_pay72 x0) (View.ld x0 r0_83))⟩,
    ⟨r0_85, k0_pay60 (k0_pay50 (k0_pay71 x0) (View.ld x0 r0_82))⟩,
    ⟨r0_84, k0_pay59 (k0_pay69 x0)⟩]

/-- The eleven stores cover the block. -/
theorem cover0_1 (p0 : Vec F S1x1x160x128 .f32) (p1 : Vec F S1x1x160x128 .f32) (p2 : Vec F S1x1x160x128 .f32) (p3 : Vec F S1x1x160x128 .f32) (p4 : Vec F S1x1x160x128 .f32) (p5 : Vec F S1x1x160x128 .f32) (p6 : Vec F S1x1x160x128 .f32) (p7 : Vec F S1x1x160x128 .f32) (p8 : Vec F S1x1x160x128 .f32) (p9 : Vec F S1x1x160x128 .f32) (p10 : Vec F S1x1x160x128 .f32) (y : S1x11x160x128.Idx) :
    ∃ pc ∈ ([⟨r0_94, p0⟩, ⟨r0_93, p1⟩, ⟨r0_92, p2⟩, ⟨r0_91, p3⟩, ⟨r0_90, p4⟩, ⟨r0_89, p5⟩, ⟨r0_88, p6⟩, ⟨r0_87, p7⟩, ⟨r0_86, p8⟩, ⟨r0_85, p9⟩, ⟨r0_84, p10⟩] : List (View.Piece (Elt F) S1x11x160x128 .f32)), y ∈ pc.1.set :=
  View.cover_of_tiled [⟨r0_94, p0⟩, ⟨r0_93, p1⟩, ⟨r0_92, p2⟩, ⟨r0_91, p3⟩, ⟨r0_90, p4⟩, ⟨r0_89, p5⟩, ⟨r0_88, p6⟩, ⟨r0_87, p7⟩, ⟨r0_86, p8⟩, ⟨r0_85, p9⟩, ⟨r0_84, p10⟩] S1x1x160x128.size (by rfl) y

/-! ## The body's triple -/

set_option maxHeartbeats 13829050 in
/-- The body, from its input block and any output block, leaves the input as it was and the output at `out0_1`. -/
theorem sound_kernel0 (c : Dev nD) (E : Set ℕ) (i : grid0.Coords) (arg1 : Memref sig .tc .vmem S1x84x160x128 .f32) (harg1 : arg1.IsWhole) (arg2 : Memref sig .tc .vmem S1x11x160x128 .f32) (harg2 : arg2.IsWhole)
    (x0 : Vec F S1x84x160x128 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__prep_body i arg1 harg1 arg2 harg2) K := by
  simp only [cc0__prep_body_eq_skeleton]; unfold cc0__prep_body_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton]
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  refine (View.read_writes_eq_canon _ _ _ (cover0_1 _ _ _ _ _ _ _ _ _ _ _)).trans ?_
  rfl

/-! ## The call's data -/

/-- What the first call's arrays and blocks hold: the input's as found, the output's block at what the body leaves. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

/-- Its arrays are as found. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

/-- The input's buffer holds its block at every grid point. -/
theorem before0_0 (c : Dev nD) (t : Fin cfg0.N) (d) : (dat0 V c).before 0 t d = iblk0 V c 0 t :=
  before0_0_of V (dat0 V c) (A_eq0 V c 0) (after0_0 V c) t d

/-! ## The body at every grid point -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

/-- The body at any grid point. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ (grid0.coords t) _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The call's body at point `t` is the printed one. -/
theorem defs₀_row0 (t : Fin cfg0.N) :
    defs₀ (F := F) .tc cfg0.body (cfg0.bodyArgs t (cfg0.slots t)) = bodyAt0 t := by
  unfold defs₀; rw [Defs.onTc_tc]

/-- What a pipelined call asks of its body, at every grid point. -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Regions

end Cert.KernelIdeal.Body

end
-- ==== Proof.KernelIdealRegion.lean ====
/-
  The second kernel call as a region: its windows' blocks, its proof data, and the obligation of its body. The output's
  window is held to a predicate: the rows that the loop stores.
-/
module

public import proofs.«01_k».proof.Proof.KernelIdealLoop
public import proofs.«01_k».proof.Proof.KernelIdealPrep
public import Idealize.ShloMosaic.Lib.Pipeline.DatRel

@[expose] public section

set_option maxRecDepth 16384

noncomputable section

namespace Cert.KernelIdeal.Body

open Cert.KernelIdeal.Gen

open Idealize.ShloMosaic Idealize.ShloMosaic.TcCoe Idealize.ShloMosaic.Tactic
open Idealize.ShloMosaic.Pipeline (Dat BodyObligationRel)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-- The block of window `w` at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

abbrev ms1_0 (t : Fin cfg1.N) : Memref sig .tc .vmem S1x16x11x160x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x16x304x8 .f32 := win1_1.stage (cfg1.slots t 1)
abbrev hs1_1 (t : Fin cfg1.N) : (ms1_1 t).IsWhole := hstage1_1 ((cfg1.slots t 1).cast nbuf1_1)
abbrev scM1_0 : Memref sig .tc .vmem S16x160x128 .f32 := Memref.whole cc1_scratch0

/-- The region's invariant with the scores' buffer as a memref at some contents. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ d, owns (c : Thread nD τ) scM1_0 fullShare d)) ∗ (∃ r, prngReg c r)) := by
  unfold Pipeline.ΦA; rw [scopedRest1_eq]; simp only [scM1_0, owns_whole]; try rfl

/-- Contents of an output block that nothing depends on. -/
def anyOut : Vec F S1x16x304x8 .f32 :=
  (Memref.whole cc1_stg1_0 : Memref sig .tc .vmem S1x16x304x8 .f32).view.read (Elt F) (Memref.whole cc1_stg1_0 : Memref sig .tc .vmem S1x16x304x8 .f32).view.junk

/-- The proof data of the second call on core `c`: the planes stay; what the output's block holds is not named here. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => anyOut
  Φ _ := Pipeline.ΦA spec1 c
  q _ := fullShare
  owed _ := 0

/-- Only the output's window is held to a predicate. -/
def fg1 : Fin cfg1.W → Bool
  | ⟨0, _⟩ => false
  | ⟨1, _⟩ => true

/-- The predicate: the 300 rows of the trips over the planes' block. -/
def Rl1 (c : Dev nD) : (w : Fin cfg1.W) → Fin cfg1.N → ((cfg1.win w).block.Idx → Elt F (cfg1.win w).elt) → Prop
  | ⟨0, _⟩, _, _ => True
  | ⟨1, _⟩, t, X => RowsBelow 300 (iblk1 V c 0 t) X

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]

theorem before1_0 (c : Dev nD) (t : Fin cfg1.N) (d) : (dat1 V c).before 0 t d = iblk1 V c 0 t :=
  before1_0_of V (dat1 V c) (A_eq1 V c 0) (after1_0 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ Y, ⌜((dat1 V c).toRRel fg1 (Rl1 V c)).Finds 1 t Y⌝ ∗ owns (c : Thread nD τ) (ms1_1 t) fullShare Y))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ (∃ X, ⌜RowsBelow 300 (iblk1 V c 0 t) X⌝ ∗ owns (c : Thread nD τ) (ms1_1 t) fullShare X))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).Φ t.succ = (dat1 V c).Φ t.castSucc from rfl,
    show (dat1 V c).owesAt () t.succ = (dat1 V c).owesAt () t.castSucc from rfl,
    after1_0]
  rw [show (dat1 V c).Φ t.castSucc = Pipeline.ΦA spec1 c from rfl, PhiA1_eq]
  iintro ⟨⟨⟨HR0, HR1, HR2, HR3, HS0⟩, Hg⟩, Ho, ⟨%d0, H0⟩, ⟨%d1, -, H1⟩⟩
  iapply (body_run c Set.univ (grid1.coords t) _ _ _ _ _ _ (iblk1 V c 0 t) _)
  isplitl [H0]; · iexact H0
  isplitl [H1]; · iexists _; iexact H1
  isplitl [HS0]; · iexact HS0
  iintro ⟨H0, H1, HS0⟩
  isplitl [HR0 HR1 HR2 HR3 HS0 Hg]
  · isplitl [HR0 HR1 HR2 HR3 HS0]
    · isplitl [HR0]
      · iexact HR0
      isplitl [HR1]
      · iexact HR1
      isplitl [HR2]
      · iexact HR2
      isplitl [HR3]
      · iexact HR3
      iexact HS0
    iexact Hg
  isplitl [Ho]; · iexact Ho
  isplitl [H0]; · iexact H0
  iexact H1

theorem defs₀_row1 (t : Fin cfg1.N) :
    defs₀ (F := F) .tc cfg1.body (cfg1.bodyArgs t (cfg1.slots t)) = bodyAt1 t := by
  unfold defs₀; rw [Defs.onTc_tc]

theorem body_obligation1 (c : Dev nD) :
    BodyObligationRel (dat1 (F := F) V c) (defs₀ (F := F)) Variants.none () Set.univ fg1 (Rl1 V c) := fun t => by
  rw [bigSep_W1, bigSep_W1, defs₀_row1]
  exact triple_restated (sound_body1 V c t) rfl .rfl fun _ => .rfl

end Region1

end Cert.KernelIdeal.Body

end
-- ==== Proof.KernelIdealRun.lean ====
/-
  The kernel's run from the launch to the return: the host stretches and the two kernel calls as segments, the second
  call's output known by its first 300 rows. Every fair execution terminates, the arguments as launched, every counter
  at zero, the result cut from an array with those rows.
-/
module

public import proofs.«01_k».proof.Proof.KernelIdealRegion
public import Idealize.ShloMosaic.Lib.Pipeline.RegionsLoop
public import Idealize.ShloMosaic.Lib.Pipeline.FrameSuffix
public import Idealize.ShloMosaic.Lib.Pipeline.ArrRel

@[expose] public section

set_option maxRecDepth 16384

noncomputable section

namespace Cert.KernelIdeal.Body

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run -/

/-- The arguments. -/
abbrev argRefs : List (Ref sig .tc) := [main_arg0, main_arg1]

/-! ## The host stretches: none allocates a buffer, and what each writes -/

/-- `hostOps0` allocates no buffer. -/
theorem hostOps0_fresh : (hostOps0 : List (HloOp τ sig (Elt F))).Forall fun op => op.fresh = ∅ := by
  simp only [List.Forall]; repeat' constructor
/-- What `hostOps0` writes, in order. -/
abbrev hostOps0_W : List (Ref sig .tc) := [main_call0_c, main_call0_call0_v0, main_call0_v0, main_call0_v1]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes no argument. -/
theorem hostOps0_args : ∀ a ∈ argRefs, a ∉ hostOps0_W := ListAll.forall_mem_of_all_decide (by decide +kernel)

/-- `hostOps1` allocates no buffer. -/
theorem hostOps1_fresh : (hostOps1 : List (HloOp τ sig (Elt F))).Forall fun op => op.fresh = ∅ := by
  simp only [List.Forall]; repeat' constructor
/-- What `hostOps1` writes, in order. -/
abbrev hostOps1_W : List (Ref sig .tc) := [main_call0_v3]
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes no argument. -/
theorem hostOps1_args : ∀ a ∈ argRefs, a ∉ hostOps1_W := ListAll.forall_mem_of_all_decide (by decide +kernel)

/-- `hostOps2` allocates no buffer. -/
theorem hostOps2_fresh : (hostOps2 : List (HloOp τ sig (Elt F))).Forall fun op => op.fresh = ∅ := by
  simp only [List.Forall]; repeat' constructor
/-- What `hostOps2` writes, in order. -/
abbrev hostOps2_W : List (Ref sig .tc) := [main_call0_v5, main_v0]
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes no argument. -/
theorem hostOps2_args : ∀ a ∈ argRefs, a ∉ hostOps2_W := ListAll.forall_mem_of_all_decide (by decide +kernel)

/-! ## The buffers between the stretches and the calls -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0`. -/
abbrev W1 : Dev nD → Valuation τ sig (Elt F) := fun c => StableHlo.after hostOps0 (W0 m ρ c)
/-- What `hostOps0` does not write it leaves. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same, by reference. -/
abbrev V1 : (c : Dev nD) → (b : Ref sig .tc) → Buf (Elt F) ((c : Thread nD τ).loc b) := fun c b => W1 m ρ c b
/-- After the first call: its arrays as it leaves them, every other buffer as before. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A buffer that is not the first call's output goes through it. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- No argument is the first call's output. -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same, by reference. -/
abbrev V2 : (c : Dev nD) → (b : Ref sig .tc) → Buf (Elt F) ((c : Thread nD τ).loc b) := fun c b => W2 m ρ c b
/-- The first call's arrays hold what it leaves, and the rest what they held. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1`. -/
abbrev W3 : Dev nD → Valuation τ sig (Elt F) := fun c => StableHlo.after hostOps1 (W2 m ρ c)
/-- What `hostOps1` does not write it leaves. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
/-- The same, by reference. -/
abbrev V3 : (c : Dev nD) → (b : Ref sig .tc) → Buf (Elt F) ((c : Thread nD τ).loc b) := fun c b => W3 m ρ c b
/-- Contents of the second call's arrays on core `c`. -/
abbrev Arrs1 (c : Dev nD) : Type := (w : Fin cfg1.W) → Buf (Elt F) ((cfg1.win w).arr.view.loc (c : Thread nD τ))

/-- At the second call's exit: its arrays at `G`, every other buffer as entered. -/
def W4 (c : Dev nD) (G : Arrs1 (F := F) c) : Valuation τ sig (Elt F) := Pipeline.withArrays spec1 c (W3 m ρ c) G
theorem W4_arr (c : Dev nD) (G : Arrs1 (F := F) c) (w : Fin cfg1.W) :
    W4 m ρ c G (Proc.devRef .tc (Pipeline.arrRef spec1 w)) = G w := by
  unfold W4; exact Pipeline.withArrays_arr spec1 launch1.win.arr_inj c _ _ w
theorem W4_of_ne (c : Dev nD) (G : Arrs1 (F := F) c) (b : Ref sig .tc) (hb : ∀ w, Pipeline.arrRef spec1 w ≠ b) :
    W4 m ρ c G (Proc.devRef .tc b) = W3 m ρ c (Proc.devRef .tc b) := by
  unfold W4; exact Pipeline.withArrays_of_ne spec1 c _ _ b hb
/-- No argument is one of the second call's arrays. -/
theorem argsNot1 : ∀ a ∈ argRefs, ∀ w : Fin cfg1.W, Pipeline.arrRef spec1 w ≠ a :=
  ListAll.forall_mem_of_all_decide (by decide +kernel)
theorem W4_args (c : Dev nD) (G : Arrs1 (F := F) c) : ∀ a ∈ argRefs, W4 m ρ c G (Proc.devRef .tc a) = m ((c : Thread nD τ).loc a) :=
  fun a ha => (W4_of_ne m ρ c G a (argsNot1 a ha)).trans (W3_args m ρ c a ha)

/-- After the last host stretch. -/
abbrev W5 (c : Dev nD) (G : Arrs1 (F := F) c) : Valuation τ sig (Elt F) := StableHlo.after hostOps2 (W4 m ρ c G)
theorem W5_of (c : Dev nD) (G : Arrs1 (F := F) c) (r : Ref sig .tc) (h : r ∉ hostOps2_W) :
    W5 m ρ c G (Proc.devRef .tc r) = W4 m ρ c G (Proc.devRef .tc r) :=
  StableHlo.after_of_writes_sub hostOps2 _ hostOps2_writes h
theorem W5_args (c : Dev nD) (G : Arrs1 (F := F) c) : ∀ a ∈ argRefs, W5 m ρ c G (Proc.devRef .tc a) = m ((c : Thread nD τ).loc a) :=
  fun a ha => (W5_of m ρ c G a (hostOps2_args a ha)).trans (W4_args m ρ c G a ha)

/-! ## The two calls' data, and what stands beside the buffers -/

/-- Neither call has a prefetched table. -/
abbrev adm : (p : Fin 2) → (pcfgs (F := F) p).Adm := fun p => (cfgs p).toPCfg_adm
/-- The data of each call, from the buffers it finds. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
/-- Which windows are held to a predicate, and the predicates. -/
def fgs : (p : Fin 2) → Fin (Pipeline.pin (pcfgs (F := F)) adm p).W → Bool
  | ⟨0, _⟩ => fun _ => false
  | ⟨1, _⟩ => fg1
def Rls : (p : Fin 2) → (c : Dev nD) → (w : Fin (Pipeline.pin (pcfgs (F := F)) adm p).W) → Fin (Pipeline.pin (pcfgs (F := F)) adm p).N
    → (((Pipeline.pin (pcfgs (F := F)) adm p).win w).block.Idx → Elt F ((Pipeline.pin (pcfgs (F := F)) adm p).win w).elt) → Prop
  | ⟨0, _⟩ => fun _ _ _ _ => True
  | ⟨1, _⟩ => fun c => Rl1 (V3 m ρ) c
/-- The data of each call, the second's output known by its predicate only. -/
def rdats (p : Fin 2) (c : Dev nD) : RDat τ (Elt F) Unit ℕ (UR sig nD τ) ℕ (Pipeline.pin (pcfgs (F := F)) adm p) c :=
  (pdats m ρ p c).toRRel (fgs p) (Rls m ρ p c)

abbrev 𝒱₀ : Variants := Variants.none
/-- No core owes another anything: no level is assigned. -/
abbrev L : GSem nD τ sig → Finset Unit := fun _ => ∅
abbrev lv : GSem nD τ sig → Unit → ℕ := fun _ _ => 0
/-- Beside the buffers: the random generator's state, and that no copy is under way. -/
abbrev R (c : Dev nD) : sProp 𝕄 := iprop((∃ r, prngReg c r) ∗ ∃ W, owes (c : Thread nD τ) (0 : CellTallies nD τ sig Unit) W)
/-- A host stretch as a segment of the run. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- A host buffer is among those that the state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- What the second call's arrays may hold at its exit. -/
abbrev Ends1 (c : Dev nD) (G : Arrs1 (F := F) c) : Prop := ∀ w : Fin cfg1.W, ((dat1 (V3 m ρ) c).toRRel fg1 (Rl1 (V3 m ρ) c)).ArrAt w cfg1.N (G w)
/-- The thread state after the second call, and the last one without what the core owes. -/
abbrev T₄ (c : Dev nD) : sProp 𝕄 :=
  iprop(∃ G, ⌜Ends1 m ρ c G⌝ ∗ StableHlo.held (c : Thread nD τ) (Pipeline.ucRefs τ sig) (W4 m ρ c G) ∗ R c)
abbrev Tₙ (c : Dev nD) : sProp 𝕄 :=
  iprop((∃ G, ⌜Ends1 m ρ c G⌝ ∗ StableHlo.held (c : Thread nD τ) (Pipeline.ucRefs τ sig) (W5 m ρ c G)) ∗ ∃ r, prngReg c r)

/-! ## The regions as segments -/

/-- Arrays at some contents each, as one family of contents. -/
theorem arrays_open {cfg : Cfg sig Λ₀} {c : Dev nD} (rd : RDat τ (Elt F) Unit ℕ (UR sig nD τ) ℕ cfg c) (n : ℕ) :
    (rd.arraysAt n : sProp 𝕄) ⊢ iprop(∃ G : (w : Fin cfg.W) → Buf (Elt F) ((cfg.win w).arr.view.loc (c : Thread nD τ)),
      ⌜∀ w, rd.ArrAt w n (G w)⌝ ∗ rd.arrays G) := by
  unfold RDat.arraysAt RDat.arrays
  refine (BI.bigSep_exists_pi Finset.univ _).trans ?_
  iintro ⟨%A, H⟩
  ihave H' := (BI.bigSep_pure_sep Finset.univ (fun w => rd.ArrAt w n (A w)) _) $$ H
  icases H' with ⟨%hA, H⟩
  iexists A
  isplitr
  · ipureintro; exact fun w => hA w (Finset.mem_univ w)
  iexact H

set_option backward.isDefEq.respectTransparency.types false in
/-- The first call as a segment of the run: from the buffers at `W1` to the buffers at `W2`. -/
def reg0 : Pipeline.RDat.RegionSeg (pcfgs (F := F)) adm (rdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose.toR
  hwaits := Pipeline.RDat.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.RDat.arrays_of_unscopedBufs (p := 0) (pcfgs (F := F)) adm (rdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (rdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    have hpost : (rdats m ρ 0 c).arraysAt cfg0.N ⊢ ((dat0 (V1 m ρ) c).arrays ((dat0 (V1 m ρ) c).arrAt · cfg0.N) : sProp 𝕄) :=
      (dat0 (V1 m ρ) c).toR_arraysAt_post cfg0.N
    iintro ⟨Ha, HO, HY, Hrest⟩
    imodintro
    isplitl [Ha Hrest]
    · iapply hjoin; isplitl [Ha]
      · iapply hpost; iexact Ha
      iexact Hrest
    isplitl [HY]; · iexact HY
    unfold Pipeline.RDat.owesAt Pipeline.owesWithin
    icases HO with ⟨%W, -, HO⟩; iexists W; iexact HO

set_option backward.isDefEq.respectTransparency.types false in
/-- The second call as a segment of the run: from the buffers at `W3` to its arrays at some `G` that it may leave. -/
def reg1 : Pipeline.RDat.RegionSeg (pcfgs (F := F)) adm (rdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).toRRel (dat1 (V3 m ρ) c)
  hwaits := Pipeline.RDat.hwaits_of_owed_zero _ _ _ _ L lv 1 fun _ _ => rfl
  pre c := iprop(StableHlo.held (c : Thread nD τ) (Pipeline.ucRefs τ sig) (W3 m ρ c) ∗ R c)
  post c := T₄ m ρ c
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.RDat.arrays_of_unscopedBufs (p := 1) (pcfgs (F := F)) adm (rdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (rdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hopen : (rdats m ρ 1 c).arraysAt cfg1.N ⊢ (iprop(∃ G : Arrs1 (F := F) c, ⌜Ends1 m ρ c G⌝ ∗ (dat1 (V3 m ρ) c).arrays G) : sProp 𝕄) :=
      arrays_open ((dat1 (V3 m ρ) c).toRRel fg1 (Rl1 (V3 m ρ) c)) cfg1.N
    have hjoin := fun G : Arrs1 (F := F) c => Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (fun b => W4 m ρ c G b) G (fun w => (W4_arr m ρ c G w).symm)
      (fun b hb => W4_of_ne m ρ c G b fun w e => hb (Finset.mem_image.mpr ⟨w, Finset.mem_univ _, e⟩))
    simp only [Pipeline.unscopedBufs_held] at hjoin
    iintro ⟨Ha, HO, HY, Hrest⟩
    ihave H := hopen $$ Ha
    icases H with ⟨%G, %hG, Ha⟩
    imodintro
    iexists G
    isplitr; · ipureintro; exact hG
    isplitl [Ha Hrest]
    · iapply (hjoin G)
      isplitl [Ha]
      · iexact Ha
      iexact Hrest
    isplitl [HY]; · iexact HY
    unfold Pipeline.RDat.owesAt Pipeline.owesWithin
    icases HO with ⟨%W, -, HO⟩; iexists W; iexact HO

/-- The last host stretch from whatever the second call's arrays hold. -/
def lastSeg : Pipeline.HostSeg (Name := ℕ) (U := UR sig nD τ) (pcfgs (F := F)) defs₀ 𝒱₀ L lv where
  prog := StableHlo.seq hostOps2
  pre c := T₄ m ρ c
  post c := iprop(∃ G, ⌜Ends1 m ρ c G⌝ ∗ StableHlo.held (c : Thread nD τ) (Pipeline.ucRefs τ sig) (W5 m ρ c G) ∗ R c)
  run c {β} k K := by
    iintro ⟨Hk, Hbd, ⟨%G, %hG, Hh, HR⟩, Hl⟩
    have hrun := (hseg hostOps2 hostOps2_sub hostOps2_fresh (fun c' => if e : c' = c then W4 m ρ c' (e ▸ G) else W3 m ρ c')).run c k K
    dsimp only [hseg, Pipeline.HostSeg.ofOps] at hrun
    rw [dif_pos rfl] at hrun
    iapply hrun
    isplitl [Hk]
    · iintro ⟨Hbd, Hh, HR⟩
      iapply Hk
      isplitl [Hbd]; · iexact Hbd
      iexists G
      isplitr; · ipureintro; exact hG
      isplitl [Hh]; · iexact Hh
      iexact HR
    isplitl [Hbd]; · iexact Hbd
    isplitl [Hh HR]
    · isplitl [Hh]; · iexact Hh
      iexact HR
    iexact Hl

/-! ## The program as segments, and the launch -/

/-- The five segments in order. -/
abbrev segs : List (Pipeline.RDat.Seg (pcfgs (F := F)) adm (rdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (lastSeg m ρ) ]
/-- The program is the segments in order. -/
theorem main_run (c : Dev nD) : main (F := F) c = Pipeline.RDat.Seg.run (segs m ρ) := (main_chain c).trans (by chain_rfl)

/-- The TensorCore has no unscoped semaphore. -/
theorem no_unscoped : ∀ sm : SemLoc sig, sm.isScoped .tc = true := by decide

set_option backward.isDefEq.respectTransparency.types false in
/-- The run, at any float operations: the arguments as launched, the result the last stretch's from arrays that the second
    call may leave, every counter at zero. -/
theorem run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ ∃ G, Ends1 m ρ c G ∧ r.2.mem ((c.tc : Thread nD τ).loc main_v0) = W5 m ρ c G (Proc.devRef .tc main_v0))
      ∧ r.2.sem = fun _ => 0) :=
  Pipeline.RDat.θ_run_regions_kit_sems (pcfgs (F := F)) adm (rdats m ρ) () cellOf_inj emb₁ defs₀ 𝒱₀ L lv m ρ main (segs m ρ)
    (fun c Q => by rw [main_run m ρ c])
    (by simp only [segs, Pipeline.RDat.Seg.pipes_host, Pipeline.RDat.Seg.pipes_region, Pipeline.RDat.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.RDat.Seg.post, lastSeg]
      iintro ⟨%G, %hG, Hh, Hp, HO⟩
      isplitl [Hh Hp]
      · isplitl [Hh]
        · iexists G
          isplitr; · ipureintro; exact hG
          iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∃ G, Ends1 m ρ c G ∧ ∀ b ∈ Pipeline.ucRefs τ sig, s.mem (((c : Thread nD τ)).1, b) = W5 m ρ c G b)
    (hfin := fun c s' => by
      iintro ⟨⟨⟨%G, %hG, Hh⟩, -⟩, HSI⟩
      unfold StableHlo.held
      imodintro
      ihave H := (pointsTo_read_all (Pipeline.ucRefs τ sig) (fun b => (((c : Thread nD τ)).1, b)) (W5 m ρ c G) s') $$ [Hh HSI]
      · isplitl [Hh] <;> iassumption
      icases H with ⟨%h, HSI⟩
      isplitr
      · ipureintro; exact ⟨G, hG, h⟩
      iexact HSI)
    (hQ := fun s h hz => ⟨(fun c => by
      obtain ⟨G, hG, hs⟩ := h c
      exact ⟨(hs _ (mem_uc main_arg0 (by decide))).trans (W5_args m ρ c G main_arg0 (by decide)),
       (hs _ (mem_uc main_arg1 (by decide))).trans (W5_args m ρ c G main_arg1 (by decide)),
       G, hG, hs _ (mem_uc main_v0 (by decide))⟩), funext fun g => hz g (.inr (no_unscoped g.2))⟩)

/-- The kernel terminates, its arguments as launched, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => ⟨(h.1 c).1, (h.1 c).2.1⟩, h.2⟩) (run m ρ)

end Cert.KernelIdeal.Body

end
-- ==== Proof.KernelFrame.lean ====
/-
  The kernel over bit floats is, word for word, the program that is also read over the extended reals. That program's run is
  proved for every reading of the floats; here it is handed to the kernel.
-/
module

public import proofs.«01_k».proof.Proof.KernelIdealRun
public import proofs.«01_k».proof.Proof.Gen.Kernel
public import proofs.«01_k».proof.Proof.Gen.KernelIdeal

@[expose] public section

noncomputable section

namespace Cert.Kernel.Body

open Idealize.ShloMosaic Idealize.ShloMosaic.TcCoe Idealize.SL.Sem

variable {F : FTy → Type} [FloatOps F]

attribute [local instance] Cert.Kernel.Gen.facts Cert.KernelIdeal.Gen.facts

/-- The two calls' bodies are the same. -/
theorem bodies_eq : @Cert.Kernel.defs₀ F _ _ = @Cert.KernelIdeal.defs₀ F _ _ := by
  unfold Cert.Kernel.defs₀ Cert.KernelIdeal.defs₀
  congr 1
  funext l x
  match l, x with
  | 0, (t, s) => rfl
  | 1, (t, s) => rfl

/-- With their pipelines too. -/
theorem calls_eq : @Cert.Kernel.defs F _ _ = @Cert.KernelIdeal.defs F _ _ := by
  unfold Cert.Kernel.defs Cert.KernelIdeal.defs
  rw [bodies_eq]
  rfl

/-- The kernel terminates, its arguments as launched, every counter at zero. -/
theorem frame (m : (ℓ : Loc Cert.Kernel.nD Cert.Kernel.τ Cert.Kernel.sig) → Buf (Elt F) ℓ) (ρ : Dev Cert.Kernel.nD → PrngReg) :
    θ_run (Cert.Kernel.defs (F := F)) (onTc (τ := Cert.Kernel.τ) (Cert.Kernel.main (F := F))) ⟨m, fun _ => 0, ρ⟩ (fun r =>
      (∀ c : Dev Cert.Kernel.nD,
        r.2.mem ((c.tc : Thread Cert.Kernel.nD Cert.Kernel.τ).loc Cert.Kernel.main_arg0) = m ((c.tc : Thread Cert.Kernel.nD Cert.Kernel.τ).loc Cert.Kernel.main_arg0)
        ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0) := by
  rw [calls_eq]
  exact Cert.KernelIdeal.Body.frame m ρ

end Cert.Kernel.Body

end
-- ==== Proof.Greedy.lean ====
/-
  Greedy suppression over one image, as plain mathematics on the extended reals: what a trip picks, what it strikes out,
  the row it writes. Both programs are read against these definitions.
-/
module

public import Idealize.ShloMosaic.PureOps.Ideal
public import Idealize.ShloMosaic.PureOps.Ideal.Laws

@[expose] public section

set_option maxRecDepth 16384

noncomputable section

namespace Cert.Greedy

open Idealize.ShloMosaic

/-- How many boxes an image has. -/
abbrev N : ℕ := 20000

/-- The numbers of one image: each box's corners, its class and its score. -/
structure Img where
  x1 : Fin N → EReal
  y1 : Fin N → EReal
  x2 : Fin N → EReal
  y2 : Fin N → EReal
  cls : Fin N → EReal
  score : Fin N → EReal

/-- The constants: the image size, the small addend below the quotient, the two thresholds. -/
def size : EReal := Ideal.ofBits .f32 0x44200000#32
def tiny : EReal := Ideal.ofBits .f32 0x33D6BF95#32
def thr : EReal := Ideal.ofBits .f32 0x3EE66666#32
def low : EReal := Ideal.ofBits .f32 0x3E800000#32

theorem negInf : Ideal.ofBits .f32 0xFF800000#32 = ⊥ := by simp [Ideal.ofBits, Ideal.ieee]

/-- The corners, scaled and moved apart by class. -/
def nx1 (B : Img) (j : Fin N) : EReal := Ideal.div (B.x1 j) size + B.cls j
def ny1 (B : Img) (j : Fin N) : EReal := Ideal.div (B.y1 j) size + B.cls j
def nx2 (B : Img) (j : Fin N) : EReal := Ideal.div (B.x2 j) size + B.cls j
def ny2 (B : Img) (j : Fin N) : EReal := Ideal.div (B.y2 j) size + B.cls j

def area (B : Img) (j : Fin N) : EReal := max (nx2 B j - nx1 B j) 0 * max (ny2 B j - ny1 B j) 0

/-- The area two boxes share. -/
def inter (B : Img) (i j : Fin N) : EReal :=
  max (min (nx2 B i) (nx2 B j) - max (nx1 B i) (nx1 B j)) 0 * max (min (ny2 B i) (ny2 B j) - max (ny1 B i) (ny1 B j)) 0

/-- The boxes overlap above the threshold. -/
def Over (B : Img) (i j : Fin N) : Prop :=
  thr < Ideal.div (inter B i j) (area B i + area B j - inter B i j + tiny)

/-- `i` is where the largest entry stands first. -/
def IsTop {n : ℕ} (s : Fin n → EReal) (i : Fin n) : Prop := (∀ j, s j ≤ s i) ∧ ∀ j, s j = s i → i ≤ j

theorem exists_isTop {n : ℕ} (hn : 0 < n) (s : Fin n → EReal) : ∃ i, IsTop s i := by
  haveI : Nonempty (Fin n) := ⟨⟨0, hn⟩⟩
  obtain ⟨m, hm⟩ := Finite.exists_max s
  classical
  obtain ⟨i, hi, hle⟩ := (Finset.univ.filter fun j => s j = s m).exists_min_image id ⟨m, by simp⟩
  have hi' : s i = s m := by simpa using hi
  refine ⟨i, fun j => hi' ▸ hm j, fun j hj => ?_⟩
  exact hle j (by simpa using hj.trans hi')

theorem IsTop.unique {n : ℕ} {s : Fin n → EReal} {i i' : Fin n} (h : IsTop s i) (h' : IsTop s i') : i = i' :=
  have e : s i = s i' := le_antisymm (h'.1 i) (h.1 i')
  le_antisymm (h.2 i' e.symm) (h'.2 i e)

def top (s : Fin N → EReal) : Fin N := (exists_isTop (by norm_num) s).choose

theorem top_spec (s : Fin N → EReal) : IsTop s (top s) := (exists_isTop (by norm_num) s).choose_spec

theorem top_eq {s : Fin N → EReal} {i : Fin N} (h : IsTop s i) : top s = i := (top_spec s).unique h

/-- The scores after a trip: the picked box and all it overlaps struck out. -/
def next (B : Img) (s : Fin N → EReal) (j : Fin N) : EReal :=
  open Classical in if Over B (top s) j ∨ j = top s then ⊥ else s j

/-- The starting scores. -/
def start (B : Img) (j : Fin N) : EReal := if low < B.score j then B.score j else ⊥

/-- The scores before trip `k`. -/
def at_ (B : Img) : ℕ → Fin N → EReal
  | 0 => start B
  | k + 1 => next B (at_ B k)

/-- The six numbers of a row. -/
def row (B : Img) (j : Fin N) : Fin 6 → EReal := ![B.x1 j, B.y1 j, B.x2 j, B.y2 j, B.score j, B.cls j]

/-- What trip `k` writes: the picked box's row, or nothing where all are struck out. -/
def out (B : Img) (k : ℕ) (l : Fin 6) : EReal :=
  if ⊥ < at_ B k (top (at_ B k)) then row B (top (at_ B k)) l else 0

/-- A score that is not struck out is the box's score. -/
theorem at_eq (B : Img) (k : ℕ) (j : Fin N) : at_ B k j = ⊥ ∨ at_ B k j = B.score j := by
  induction k with
  | zero => unfold at_ start; split
            · exact .inr rfl
            · exact .inl rfl
  | succ k ih => unfold at_ next; split
                 · exact .inl rfl
                 · exact ih

theorem at_eq_score (B : Img) (k : ℕ) (j : Fin N) (h : ⊥ < at_ B k j) : at_ B k j = B.score j :=
  (at_eq B k j).resolve_left h.ne'

/-! ## The image from its prediction -/

/-- Where the largest of the 80 class scores stands first. -/
def best (q : Fin 84 → Fin N → EReal) (j : Fin N) : Fin 80 :=
  (exists_isTop (by norm_num) fun c : Fin 80 => q ⟨c.val + 4, by omega⟩ j).choose

theorem best_spec (q : Fin 84 → Fin N → EReal) (j : Fin N) : IsTop (fun c : Fin 80 => q ⟨c.val + 4, by omega⟩ j) (best q j) :=
  (exists_isTop (by norm_num) fun c : Fin 80 => q ⟨c.val + 4, by omega⟩ j).choose_spec

/-- Half of a box's width or height. -/
def half (v : EReal) : EReal := Ideal.div v (Ideal.ofBits .f32 0x40000000#32)

/-- An image's numbers from its prediction: the box's centre and extent in the first four rows, the class scores below. -/
def img (q : Fin 84 → Fin N → EReal) : Img where
  x1 j := q 0 j - half (q 2 j)
  y1 j := q 1 j - half (q 3 j)
  x2 j := q 0 j + half (q 2 j)
  y2 j := q 1 j + half (q 3 j)
  cls j := FloatOps.sitofp (F := Ideal) .f32 (BitVec.ofNat 32 (best q j).val)
  score j := q ⟨(best q j).val + 4, by omega⟩ j

/-! ## The lesser of two words that are small numbers -/

theorem minsi_ofNat (a b : ℕ) (ha : a ≤ 2147483647) (hb : b ≤ 2147483647) :
    IntOp.minsi (BitVec.ofNat 32 a) (BitVec.ofNat 32 b) = BitVec.ofNat 32 (min a b) := by
  unfold IntOp.minsi
  have e : (BitVec.ofNat 32 a).slt (BitVec.ofNat 32 b) = decide (a < b) := by
    rw [BitVec.slt_eq_decide, BitVec.toInt_eq_toNat_of_lt, BitVec.toInt_eq_toNat_of_lt]
    · simp only [BitVec.toNat_ofNat]
      rw [Nat.mod_eq_of_lt (by omega), Nat.mod_eq_of_lt (by omega)]
      simp
    · simp only [BitVec.toNat_ofNat]; omega
    · simp only [BitVec.toNat_ofNat]; omega
  rw [e]
  by_cases hab : a < b
  · rw [if_pos (by simpa using hab), min_eq_left hab.le]
  · rw [if_neg (by simpa using hab), min_eq_right (not_lt.1 hab)]

/-! ## The image on a block of 160 rows of 128 lanes -/

/-- The image laid out on the block's rows and lanes, −∞ past its end. -/
def Lay (S : Fin 160 → Fin 128 → EReal) (s : Fin N → EReal) : Prop :=
  ∀ r l, S r l = if h : r.val * 128 + l.val < N then s ⟨r.val * 128 + l.val, h⟩ else ⊥

/-- Where box `i` lies. -/
def rowOf (i : Fin N) : Fin 160 := ⟨i.val / 128, by have := i.isLt; unfold N at this; omega⟩
def laneOf (i : Fin N) : Fin 128 := ⟨i.val % 128, Nat.mod_lt _ (by norm_num)⟩

theorem pos_eq (i : Fin N) : (rowOf i).val * 128 + (laneOf i).val = i.val := by
  show i.val / 128 * 128 + i.val % 128 = i.val
  omega

theorem Lay.at_pos {S : Fin 160 → Fin 128 → EReal} {s : Fin N → EReal} (h : Lay S s) (i : Fin N) : S (rowOf i) (laneOf i) = s i := by
  have e := pos_eq i
  rw [h, dif_pos (by rw [e]; exact i.isLt)]
  exact congrArg s (Fin.ext e)

end Cert.Greedy

end
-- ==== Proof.KernelPick.lean ====
/-
  The second kernel call's trip read at an index: the largest score, the mask of the picked element, the masked sums, the
  row written and the scores after, each as the plain mathematics of the image laid out on the block.
-/
module

public import proofs.«01_k».proof.Proof.KernelIdealTrip
public import proofs.«01_k».proof.Proof.Greedy
public import Idealize.ShloMosaic.Lib.Pointwise

@[expose] public section

set_option maxRecDepth 16384

noncomputable section

namespace Cert.KernelIdeal.Body

open Cert.KernelIdeal.Gen Cert.Greedy

open Idealize.ShloMosaic

/-! ## Folds -/

/-- The least of words that are numbers below `2 ^ 31` is the word of the least number. -/
theorem fold_minsi {ι : Type} (t : Finset ι) (f : ι → ℕ) (hf : ∀ x, f x ≤ 2147483647) :
    t.fold IntOp.minsi 2147483647#32 (fun x => BitVec.ofNat 32 (f x)) = BitVec.ofNat 32 (t.fold min 2147483647 f)
      ∧ t.fold min 2147483647 f ≤ 2147483647 := by
  classical
  induction t using Finset.induction_on with
  | empty => exact ⟨rfl, le_refl _⟩
  | insert a t ha ih =>
    have h2 : min (f a) (t.fold min 2147483647 f) ≤ 2147483647 := le_trans (min_le_left _ _) (hf a)
    rw [Finset.fold_insert ha, Finset.fold_insert ha, ih.1]
    refine ⟨?_, h2⟩
    have ha' := hf a
    have hb' := ih.2
    exact minsi_ofNat _ _ ha' hb'

/-- The largest element of the block is the largest score. -/
theorem fold_max {S : Fin 160 → Fin 128 → EReal} {s : Fin N → EReal} (h : Lay S s) :
    Finset.univ.fold max ⊥ (fun l => Finset.univ.fold max ⊥ (fun r => S r l)) = s (top s) := by
  apply le_antisymm
  · refine (Finset.fold_max_le _).2 ⟨bot_le, fun l _ => (Finset.fold_max_le _).2 ⟨bot_le, fun r _ => ?_⟩⟩
    rw [h]
    split
    · exact (top_spec s).1 _
    · exact bot_le
  · rw [Finset.le_fold_max]
    refine .inr ⟨laneOf (top s), Finset.mem_univ _, ?_⟩
    rw [Finset.le_fold_max]
    exact .inr ⟨rowOf (top s), Finset.mem_univ _, le_of_eq (h.at_pos _).symm⟩

/-- The first place holding the largest element is the pick. -/
theorem fold_first {S : Fin 160 → Fin 128 → EReal} {s : Fin N → EReal} (h : Lay S s) :
    Finset.univ.fold min 2147483647 (fun l => Finset.univ.fold min 2147483647 (fun r : Fin 160 =>
      if S r l = s (top s) then r.val * 128 + l.val else 20480)) = (top s).val := by
  have hlt : (top s).val < 20000 := (top s).isLt
  apply le_antisymm
  · rw [Finset.fold_min_le]
    refine .inr ⟨laneOf (top s), Finset.mem_univ _, ?_⟩
    rw [Finset.fold_min_le]
    refine .inr ⟨rowOf (top s), Finset.mem_univ _, ?_⟩
    rw [if_pos (h.at_pos _), pos_eq]
  · refine (Finset.le_fold_min _).2 ⟨by omega, fun l _ => (Finset.le_fold_min _).2 ⟨by omega, fun r _ => ?_⟩⟩
    split
    · rename_i e
      rw [h] at e
      split at e
      · exact (top_spec s).2 _ e
      · rename_i hn; unfold N at hn; omega
    · omega

theorem eq_words (a c : ℕ) (ha : a < 2 ^ 32) (hc : c < 2 ^ 32) :
    IntOp.cmpi .eq (BitVec.ofNat 32 a) (BitVec.ofNat 32 c) = BitVec.ofBool (decide (a = c)) := by
  have e : (BitVec.ofNat 32 a = BitVec.ofNat 32 c) ↔ a = c := by
    refine ⟨fun h => ?_, fun h => h ▸ rfl⟩
    have h' := congrArg BitVec.toNat h
    rwa [BitVec.toNat_ofNat, BitVec.toNat_ofNat, Nat.mod_eq_of_lt ha, Nat.mod_eq_of_lt hc] at h'
  unfold IntOp.cmpi
  simp [e, beq_eq_decide]

theorem select_same {α : Type} (c : BitVec 1) (a : α) : Scalar.select c a a = a := by
  unfold Scalar.select; split <;> rfl

theorem select_or {α : Type} (p q : Prop) [Decidable p] [Decidable q] (a c : α) :
    Scalar.select (IntOp.ori (BitVec.ofBool (decide p)) (BitVec.ofBool (decide q))) a c = if p ∨ q then a else c := by
  unfold Scalar.select IntOp.ori
  by_cases hp : p <;> by_cases hq : q <;> simp [hp, hq]

theorem word_pos (r : Fin 160) (l : Fin 128) :
    IntOp.addi (IntOp.muli (BitVec.ofNat 32 r.val) 128#32) (BitVec.ofNat 32 l.val) = BitVec.ofNat 32 (r.val * 128 + l.val) := by
  unfold IntOp.addi IntOp.muli
  rw [BitVec.ofNat_add, BitVec.ofNat_mul]

/-! ## A trip -/

/-- The scores of image `b`. -/
abbrev blk (S : Vec Ideal S16x160x128 .f32) (b : Fin 16) : Fin 160 → Fin 128 → EReal := fun r l => S (ix3 b r l)

theorem topS_at {S : Vec Ideal S16x160x128 .f32} {b : Fin 16} {s : Fin N → EReal} (h : Lay (blk S b) s) :
    topS S (ix3 b 0 0) = s (top s) := by
  pointwise [topS, k1_pay4]
  rw [negInf]
  exact fold_max h

theorem selM_at {S : Vec Ideal S16x160x128 .f32} {b : Fin 16} {s : Fin N → EReal} (h : Lay (blk S b) s) (r : Fin 160) (l : Fin 128) :
    selM S (ix3 b r l) = BitVec.ofBool (decide (r.val * 128 + l.val = (top s).val)) := by
  pointwise [selM, k1_pay5, k1_pay2, k1_pay4]
  have hm : (Finset.univ.fold max ⊥ (fun l => Finset.univ.fold max ⊥ (fun r => S (ix3 b r l))) : EReal) = s (top s) := fold_max h
  rw [negInf]
  simp only [word_pos, hm]
  have e1 : ∀ (r : Fin 160) (l : Fin 128), (if S (ix3 b r l) = s (top s) then BitVec.ofNat 32 (r.val * 128 + l.val) else 20480#32)
      = BitVec.ofNat 32 (if S (ix3 b r l) = s (top s) then r.val * 128 + l.val else 20480) := by
    intro r l; split <;> rfl
  simp only [e1]
  have e2 : ∀ l : Fin 128, Finset.univ.fold IntOp.minsi 2147483647#32
        (fun r : Fin 160 => BitVec.ofNat 32 (if S (ix3 b r l) = s (top s) then r.val * 128 + l.val else 20480))
      = BitVec.ofNat 32 (Finset.univ.fold min 2147483647 (fun r : Fin 160 => if S (ix3 b r l) = s (top s) then r.val * 128 + l.val else 20480)) :=
    fun l => (fold_minsi _ _ fun r => by split <;> omega).1
  simp only [e2]
  rw [(fold_minsi _ _ fun l => (fold_minsi Finset.univ (fun r : Fin 160 => if S (ix3 b r l) = s (top s) then r.val * 128 + l.val else 20480)
    fun r => by split <;> omega).2).1]
  have e3 : Finset.univ.fold min 2147483647 (fun l : Fin 128 => Finset.univ.fold min 2147483647 (fun r : Fin 160 =>
      if S (ix3 b r l) = s (top s) then r.val * 128 + l.val else 20480)) = (top s).val := fold_first h
  rw [e3]
  exact eq_words _ _ (by omega) (lt_trans (top s).isLt (by norm_num))

/-- The sum that keeps one element only is that element. -/
theorem sum_one (f : Fin 160 → Fin 128 → EReal) (i : Fin N) :
    (∑ l : Fin 128, ∑ r : Fin 160, Scalar.select (BitVec.ofBool (decide (r.val * 128 + l.val = i.val))) (f r l) 0) = f (rowOf i) (laneOf i) := by
  have hp := pos_eq i
  rw [Finset.sum_eq_single (laneOf i) _ (by simp), Finset.sum_eq_single (rowOf i) _ (by simp)]
  · rw [decide_eq_true hp]; rfl
  · intro r _ hr
    rw [decide_eq_false]
    · rfl
    · intro e; apply hr; apply Fin.ext; omega
  · intro l _ hl
    refine Finset.sum_eq_zero fun r _ => ?_
    rw [decide_eq_false]
    · rfl
    · intro e; apply hl; apply Fin.ext; have := l.isLt; have := (laneOf i).isLt; omega

/-- The planes hold the image's numbers. -/
structure Planes (x : Vec Ideal S1x16x11x160x128 .f32) (b : Fin 16) (B : Img) : Prop where
  start : Lay (fun r l => x (ix5 0 b 0 r l)) (Greedy.start B)
  x1 : ∀ j, x (ix5 0 b 1 (rowOf j) (laneOf j)) = B.x1 j
  y1 : ∀ j, x (ix5 0 b 2 (rowOf j) (laneOf j)) = B.y1 j
  x2 : ∀ j, x (ix5 0 b 3 (rowOf j) (laneOf j)) = B.x2 j
  y2 : ∀ j, x (ix5 0 b 4 (rowOf j) (laneOf j)) = B.y2 j
  nx1 : ∀ j, x (ix5 0 b 5 (rowOf j) (laneOf j)) = Greedy.nx1 B j
  ny1 : ∀ j, x (ix5 0 b 6 (rowOf j) (laneOf j)) = Greedy.ny1 B j
  nx2 : ∀ j, x (ix5 0 b 7 (rowOf j) (laneOf j)) = Greedy.nx2 B j
  ny2 : ∀ j, x (ix5 0 b 8 (rowOf j) (laneOf j)) = Greedy.ny2 B j
  cls : ∀ j, x (ix5 0 b 9 (rowOf j) (laneOf j)) = B.cls j
  area : ∀ j, x (ix5 0 b 10 (rowOf j) (laneOf j)) = Greedy.area B j

section
variable {x : Vec Ideal S1x16x11x160x128 .f32} {S : Vec Ideal S16x160x128 .f32} {b : Fin 16} {B : Img} {s : Fin N → EReal}

theorem selX1_at (hx : Planes x b B) (h : Lay (blk S b) s) : selX1 x S (ix3 b 0 0) = B.x1 (top s) := by
  pointwise [selX1, k1_pay6]
  have e := selM_at h
  unfold selM at e
  simp only [e]
  rw [sum_one (fun r l => x (ix5 0 b 1 r l)), hx.x1]

theorem selY1_at (hx : Planes x b B) (h : Lay (blk S b) s) : selY1 x S (ix3 b 0 0) = B.y1 (top s) := by
  pointwise [selY1, k1_pay7]
  have e := selM_at h
  unfold selM at e
  simp only [e]
  rw [sum_one (fun r l => x (ix5 0 b 2 r l)), hx.y1]

theorem selX2_at (hx : Planes x b B) (h : Lay (blk S b) s) : k1_pay8 (selM S) (View.ld x q3) (ix3 b 0 0) = B.x2 (top s) := by
  pointwise [k1_pay8]
  simp only [selM_at h]
  rw [sum_one (fun r l => x (ix5 0 b 3 r l)), hx.x2]

theorem selY2_at (hx : Planes x b B) (h : Lay (blk S b) s) : k1_pay9 (selM S) (View.ld x q4) (ix3 b 0 0) = B.y2 (top s) := by
  pointwise [k1_pay9]
  simp only [selM_at h]
  rw [sum_one (fun r l => x (ix5 0 b 4 r l)), hx.y2]

theorem selC_at (hx : Planes x b B) (h : Lay (blk S b) s) : k1_pay10 (selM S) (View.ld x q9) (ix3 b 0 0) = B.cls (top s) := by
  pointwise [k1_pay10]
  simp only [selM_at h]
  rw [sum_one (fun r l => x (ix5 0 b 9 r l)), hx.cls]

/-- The scores after the trip are the image's scores after it. -/
theorem nextS_at (hx : Planes x b B) (h : Lay (blk S b) s) : Lay (blk (nextS x S) b) (next B s) := by
  intro r l
  show nextS x S (ix3 b r l) = _
  pointwise [nextS, k1_pay17, interS, k1_pay16, selA, k1_pay15, k1_pay14, selNx1, k1_pay11, selNy1, k1_pay12, selNx2, k1_pay13, selY2, selC]
  simp only [selX1_at hx h, selY1_at hx h, selX2_at hx h, selY2_at hx h, selC_at hx h, selM_at h, negInf]
  have hS : S (ix3 b r l) = _ := h r l
  by_cases hj : r.val * 128 + l.val < N
  · rw [dif_pos hj] at hS ⊢
    obtain ⟨j, hjv⟩ : ∃ j : Fin N, j = ⟨r.val * 128 + l.val, hj⟩ := ⟨_, rfl⟩
    have er : rowOf j = r := by apply Fin.ext; rw [hjv]; show (r.val * 128 + l.val) / 128 = r.val; omega
    have el : laneOf j = l := by apply Fin.ext; rw [hjv]; show (r.val * 128 + l.val) % 128 = l.val; omega
    rw [← hjv] at hS ⊢
    have e5 := hx.nx1 j; have e6 := hx.ny1 j; have e7 := hx.nx2 j; have e8 := hx.ny2 j; have e10 := hx.area j
    rw [er, el] at e5 e6 e7 e8 e10
    rw [e5, e6, e7, e8, e10, hS]
    have ev : r.val * 128 + l.val = j.val := by rw [hjv]
    rw [ev]
    refine (select_or _ _ _ _).trans ?_
    classical
    unfold next
    by_cases hc : Over B (top s) j ∨ j = top s
    · rw [if_pos hc]
      exact if_pos (hc.imp id Fin.ext_iff.1)
    · rw [if_neg hc]
      exact if_neg fun hc' => hc (hc'.imp id Fin.ext)
  · rw [dif_neg hj] at hS ⊢
    rw [hS]
    exact select_same _ _

/-- The scores before trip `k` are the image's. -/
theorem stS_at (hx : Planes x b B) (k : ℕ) : Lay (blk (stS x k) b) (at_ B k) := by
  induction k with
  | zero =>
    intro r l
    show k1_pay1 (View.ld x q0) (ix3 b r l) = _
    pointwise [k1_pay1]
    exact hx.start r l
  | succ k ih => exact nextS_at hx ih

/-- The row of trip `k`, its first six lanes. -/
theorem rowS_at (hx : Planes x b B) (k : ℕ) (l : Fin 6) : rowS x (stS x k) (ix4 0 b 0 ⟨l.val, by omega⟩) = out B k l := by
  have h := stS_at hx k
  pointwise [rowS, k1_pay3, k1_pay19, k1_pay20, k1_pay18, k1_pay21, k1_pay22, k1_pay23, k1_pay24, k1_pay25, k1_pay26, selX2, selY2, selC]
  simp only [selX1_at hx h, selY1_at hx h, selX2_at hx h, selY2_at hx h, selC_at hx h, topS_at h, negInf]
  unfold out
  split
  · rename_i hm
    rw [mul_one, at_eq_score B k _ hm]
    fin_cases l <;> rfl
  · rw [mul_zero]

end

end Cert.KernelIdeal.Body

end
-- ==== Proof.KernelPlanes.lean ====
/-
  The first kernel call's output block read at an index: each plane as the image's numbers, from the block of the padded
  prediction it is computed from.
-/
module

public import proofs.«01_k».proof.Proof.KernelIdealPrep
public import proofs.«01_k».proof.Proof.Greedy
public import Idealize.ShloMosaic.Lib.Pointwise

@[expose] public section

set_option maxRecDepth 16384

noncomputable section

namespace Cert.KernelIdeal.Body

open Cert.KernelIdeal.Gen Cert.Greedy

open Idealize.ShloMosaic

/-! ## Running maximum and minimum -/

/-- The class scores at a place, by number. -/
def cs (x0 : Vec Ideal S1x84x160x128 .f32) (r : Fin 160) (l : Fin 128) (c : ℕ) : EReal := x0 (ix4 0 ⟨(c + 4) % 84, Nat.mod_lt _ (by norm_num)⟩ r l)

def runMax (p : ℕ → EReal) : ℕ → EReal
  | 0 => p 0
  | k + 1 => max (runMax p k) (p (k + 1))

def runMin (f : ℕ → BitVec 32) : ℕ → BitVec 32
  | 0 => IntOp.minsi 80#32 (f 0)
  | k + 1 => IntOp.minsi (runMin f k) (f (k + 1))

theorem le_runMax (p : ℕ → EReal) (n i : ℕ) (hi : i ≤ n) : p i ≤ runMax p n := by
  induction n with
  | zero => obtain rfl : i = 0 := by omega
            exact le_refl _
  | succ n ih =>
    rcases Nat.lt_or_ge n i with h | h
    · obtain rfl : i = n + 1 := by omega
      exact le_max_right _ _
    · exact (ih h).trans (le_max_left _ _)

theorem runMax_le (p : ℕ → EReal) (n : ℕ) (c : EReal) (h : ∀ i, i ≤ n → p i ≤ c) : runMax p n ≤ c := by
  induction n with
  | zero => exact h 0 (le_refl _)
  | succ n ih => exact max_le (ih fun i hi => h i (by omega)) (h _ (le_refl _))

theorem runMin_eq (g : ℕ → ℕ) (n : ℕ) (hg : ∀ i, i ≤ n → g i ≤ 80) (t : ℕ) (ht : t ≤ 80) (hle : ∀ i, i ≤ n → t ≤ g i) :
    ∃ v, runMin (fun c => BitVec.ofNat 32 (g c)) n = BitVec.ofNat 32 v ∧ t ≤ v ∧ v ≤ 80 ∧ ∀ i, i ≤ n → v ≤ g i := by
  induction n with
  | zero =>
    refine ⟨min 80 (g 0), minsi_ofNat _ _ (by norm_num) ((hg 0 (le_refl _)).trans (by norm_num)), le_min ht (hle 0 (le_refl _)), min_le_left _ _, fun i hi => ?_⟩
    obtain rfl : i = 0 := by omega
    exact min_le_right _ _
  | succ n ih =>
    obtain ⟨v, hv, h1, h2, h3⟩ := ih (fun i hi => hg i (by omega)) fun i hi => hle i (by omega)
    refine ⟨min v (g (n + 1)), ?_, le_min h1 (hle _ (le_refl _)), (min_le_left _ _).trans h2, fun i hi => ?_⟩
    · show IntOp.minsi (runMin _ n) _ = _
      rw [hv]
      exact minsi_ofNat _ _ (h2.trans (by norm_num)) ((hg _ (le_refl _)).trans (by norm_num))
    · rcases Nat.lt_or_ge n i with h | h
      · obtain rfl : i = n + 1 := by omega
        exact min_le_right _ _
      · exact (min_le_left _ _).trans (h3 i h)

/-- The running minimum over the places that hold the largest entry is the first of them. -/
theorem runMin_first (p : ℕ → EReal) (m : EReal) (t : ℕ) (ht : t ≤ 79) (hp : p t = m) (hf : ∀ i, i ≤ 79 → p i = m → t ≤ i) :
    runMin (fun c => if p c = m then BitVec.ofNat 32 c else 80#32) 79 = BitVec.ofNat 32 t := by
  have e : (fun c => if p c = m then BitVec.ofNat 32 c else 80#32) = fun c => BitVec.ofNat 32 (if p c = m then c else 80) := by
    funext c; split <;> rfl
  obtain ⟨v, hv, h1, h2, h3⟩ := runMin_eq (fun c => if p c = m then c else 80) 79 (fun i hi => by split <;> omega) t (by omega)
    (fun i hi => by split; · exact hf i hi (by assumption)
                    · omega)
  have h4 := h3 t ht
  rw [if_pos hp] at h4
  rw [e, hv, le_antisymm h4 h1]

/-! ## The score and the class -/

theorem score_run (x0 : Vec Ideal S1x84x160x128 .f32) (r : Fin 160) (l : Fin 128) :
    k0_pay69 x0 (ix2 r l) = runMax (cs x0 r l) 79 := by
  pointwise [k0_pay69, k0_pay13, k0_pay68, k0_pay3, k0_pay4, k0_pay5, k0_pay6, k0_pay7, k0_pay8, k0_pay9, k0_pay10, k0_pay11, k0_pay12]
  rfl

theorem cls_run (x0 : Vec Ideal S1x84x160x128 .f32) (r : Fin 160) (l : Fin 128) :
    k0_pay70 x0 (ix2 r l)
      = FloatOps.sitofp (F := Ideal) .f32 (runMin (fun c => if cs x0 r l c = k0_pay69 x0 (ix2 r l) then BitVec.ofNat 32 c else 80#32) 79) := by
  have e : k0_pay13 (k0_pay68 x0) (View.ld x0 r0_77) (View.ld x0 r0_78) (View.ld x0 r0_79) = k0_pay69 x0 := rfl
  unfold k0_pay70 k0_pay14 k0_pay15
  simp only [e]
  pointwise [k0_pay16, k0_pay17, k0_pay18, k0_pay19, k0_pay20, k0_pay21, k0_pay22, k0_pay23, k0_pay24, k0_pay25, k0_pay26, k0_pay27, k0_pay28, k0_pay29, k0_pay30,
    k0_pay31, k0_pay32, k0_pay33, k0_pay34, k0_pay35, k0_pay36, k0_pay37, k0_pay38, k0_pay39, k0_pay40, k0_pay41, k0_pay42, k0_pay43, k0_pay44, k0_pay45]
  rfl

/-! ## The block -/

/-- The eleven planes. -/
def planeV (x0 : Vec Ideal S1x84x160x128 .f32) : Fin 11 → Vec Ideal S1x1x160x128 .f32 :=
  ![k0_pay59 (k0_pay69 x0), k0_pay60 (k0_pay50 (k0_pay71 x0) (View.ld x0 r0_82)), k0_pay61 (k0_pay51 (k0_pay72 x0) (View.ld x0 r0_83)),
    k0_pay62 (k0_pay52 (k0_pay71 x0) (View.ld x0 r0_82)), k0_pay63 (k0_pay53 (k0_pay72 x0) (View.ld x0 r0_83)),
    k0_pay64 (k0_pay54 (k0_pay70 x0) (k0_pay71 x0) (View.ld x0 r0_82)), k0_pay65 (k0_pay55 (k0_pay70 x0) (k0_pay72 x0) (View.ld x0 r0_83)),
    k0_pay66 (k0_pay56 (k0_pay70 x0) (k0_pay71 x0) (View.ld x0 r0_82)), k0_pay67 (k0_pay57 (k0_pay70 x0) (k0_pay72 x0) (View.ld x0 r0_83)),
    k0_pay1 (k0_pay70 x0), k0_pay2 (k0_pay58 (k0_pay70 x0) (k0_pay71 x0) (k0_pay72 x0) (View.ld x0 r0_82) (View.ld x0 r0_83))]

theorem out_at (x0 : Vec Ideal S1x84x160x128 .f32) (p : Fin 11) (r : Fin 160) (l : Fin 128) :
    out0_1 x0 (ix4 0 p r l) = planeV x0 p (ix4 0 0 r l) := by
  unfold out0_1
  refine View.canon_apply_of_pieces (fun y : S1x11x160x128.Idx => planeV x0 (y 1) (ix4 0 0 (y 2) (y 3))) _ ?_ (ix4 0 p r l) (cover0_1 _ _ _ _ _ _ _ _ _ _ _ _)
  have key : ∀ (k : Fin 11) (inb) (x : (⟨4, ![1, 1, 160, 128]⟩ : Shape).Idx),
      planeV x0 k x = (fun y : S1x11x160x128.Idx => planeV x0 (y 1) (ix4 0 0 (y 2) (y 3)))
        ((Rect.unit (s := S1x11x160x128) ![0, k.val, 0, 0] S1x1x160x128.size inb).emb x) := by
    intro k inb x
    obtain ⟨a, b, r, l, rfl⟩ : ∃ (a : Fin 1) (b : Fin 1) (r : Fin 160) (l : Fin 128), x = ix4 a b r l := ⟨x 0, x 1, x 2, x 3, eq_ix4 x⟩
    obtain rfl : a = 0 := Subsingleton.elim _ _
    obtain rfl : b = 0 := Subsingleton.elim _ _
    have e1 : (Rect.unit (s := S1x11x160x128) ![0, k.val, 0, 0] S1x1x160x128.size inb).emb (ix4 0 0 r l) 1 = k :=
      Fin.ext (by rw [Rect.emb_apply]; show k.val + 1 * 0 = k.val; omega)
    have e2 : (Rect.unit (s := S1x11x160x128) ![0, k.val, 0, 0] S1x1x160x128.size inb).emb (ix4 0 0 r l) 2 = r :=
      Fin.ext (by rw [Rect.emb_apply]; show 0 + 1 * r.val = r.val; omega)
    have e3 : (Rect.unit (s := S1x11x160x128) ![0, k.val, 0, 0] S1x1x160x128.size inb).emb (ix4 0 0 r l) 3 = l :=
      Fin.ext (by rw [Rect.emb_apply]; show 0 + 1 * l.val = l.val; omega)
    show _ = planeV x0 ((Rect.unit (s := S1x11x160x128) ![0, k.val, 0, 0] S1x1x160x128.size inb).emb (ix4 0 0 r l) 1) (ix4 0 0 _ _)
    rw [e1, e2, e3]
  simp only [List.forall_mem_cons, List.not_mem_nil, false_imp_iff, implies_true, and_true]
  exact ⟨key 10 _, key 9 _, key 8 _, key 7 _, key 6 _, key 5 _, key 4 _, key 3 _, key 2 _, key 1 _, key 0 _⟩

/-! ## The planes as the image's numbers -/

/-- The block is the image's prediction, 0 past its end. -/
def Padded (x0 : Vec Ideal S1x84x160x128 .f32) (q : Fin 84 → Fin N → EReal) : Prop :=
  ∀ c r l, x0 (ix4 0 c r l) = if h : r.val * 128 + l.val < N then q c ⟨r.val * 128 + l.val, h⟩ else 0

section
variable {x0 : Vec Ideal S1x84x160x128 .f32} {q : Fin 84 → Fin N → EReal}

theorem Padded.at_pos (h : Padded x0 q) (c : Fin 84) (j : Fin N) : x0 (ix4 0 c (rowOf j) (laneOf j)) = q c j := by
  have e := pos_eq j
  rw [h, dif_pos (by rw [e]; exact j.isLt)]
  exact congrArg (q c) (Fin.ext e)

theorem Padded.past (h : Padded x0 q) (c : Fin 84) (r : Fin 160) (l : Fin 128) (hn : ¬ r.val * 128 + l.val < N) : x0 (ix4 0 c r l) = 0 := by
  rw [h, dif_neg hn]

theorem cs_at (h : Padded x0 q) (j : Fin N) (c : Fin 80) : cs x0 (rowOf j) (laneOf j) c.val = q ⟨c.val + 4, by omega⟩ j := by
  unfold cs
  rw [h.at_pos]
  congr 1
  exact Fin.ext (Nat.mod_eq_of_lt (by omega))

theorem score_at (h : Padded x0 q) (j : Fin N) : k0_pay69 x0 (ix2 (rowOf j) (laneOf j)) = (img q).score j := by
  rw [score_run]
  show _ = q ⟨(best q j).val + 4, _⟩ j
  rw [← cs_at h j (best q j)]
  refine le_antisymm (runMax_le _ _ _ fun i hi => ?_) (le_runMax _ _ _ (by omega))
  rw [cs_at h j (best q j), cs_at h j ⟨i, by omega⟩]
  exact (best_spec q j).1 ⟨i, by omega⟩

theorem score_past (h : Padded x0 q) (r : Fin 160) (l : Fin 128) (hn : ¬ r.val * 128 + l.val < N) : k0_pay69 x0 (ix2 r l) = 0 := by
  rw [score_run]
  have e : ∀ c, cs x0 r l c = 0 := fun c => h.past _ r l hn
  exact le_antisymm (runMax_le _ _ _ fun i _ => (e i).le) ((e 0).symm.le.trans (le_runMax _ _ _ (by omega)))

theorem cls_at (h : Padded x0 q) (j : Fin N) : k0_pay70 x0 (ix2 (rowOf j) (laneOf j)) = (img q).cls j := by
  rw [cls_run, score_at h]
  have e : runMin (fun c => if cs x0 (rowOf j) (laneOf j) c = (img q).score j then BitVec.ofNat 32 c else 80#32) 79 = BitVec.ofNat 32 (best q j).val := by
    refine runMin_first _ _ _ (by omega) (cs_at h j (best q j)) fun i hi hm => ?_
    rw [cs_at h j ⟨i, by omega⟩] at hm
    exact (best_spec q j).2 ⟨i, by omega⟩ hm
  rw [e]
  rfl

theorem plane_start (h : Padded x0 q) : Lay (fun r l => out0_1 x0 (ix4 0 0 r l)) (start (img q)) := by
  intro r l
  show out0_1 x0 (ix4 0 0 r l) = _
  rw [out_at]
  show k0_pay59 (k0_pay69 x0) (ix4 0 0 r l) = _
  pointwise [k0_pay59]
  rw [negInf]
  by_cases hj : r.val * 128 + l.val < N
  · rw [dif_pos hj]
    have er : rowOf ⟨r.val * 128 + l.val, hj⟩ = r := by apply Fin.ext; show (r.val * 128 + l.val) / 128 = r.val; omega
    have el : laneOf ⟨r.val * 128 + l.val, hj⟩ = l := by apply Fin.ext; show (r.val * 128 + l.val) % 128 = l.val; omega
    have hs := score_at h ⟨r.val * 128 + l.val, hj⟩
    rw [er, el] at hs
    rw [hs]
    rfl
  · rw [dif_neg hj, score_past h r l hj, if_neg]
    have : (0 : EReal) ≤ low := by
      unfold low
      simp [Ideal.ofBits, Ideal.ieee]
      rw [← EReal.coe_mul]
      exact_mod_cast (by positivity : (0 : ℝ) ≤ 8388608 * (2 ^ 25)⁻¹)
    exact not_lt.2 this

/-- The planes of plain corners and the class. -/
theorem plane_x1 (h : Padded x0 q) (j : Fin N) : out0_1 x0 (ix4 0 1 (rowOf j) (laneOf j)) = (img q).x1 j := by
  rw [out_at]
  show k0_pay60 (k0_pay50 (k0_pay71 x0) (View.ld x0 r0_82)) (ix4 0 0 (rowOf j) (laneOf j)) = _
  pointwise [k0_pay60, k0_pay50, k0_pay71, k0_pay46, k0_pay48, k0_pay72, k0_pay47, k0_pay49]
  rw [h.at_pos, h.at_pos]
  rfl

theorem plane_y1 (h : Padded x0 q) (j : Fin N) : out0_1 x0 (ix4 0 2 (rowOf j) (laneOf j)) = (img q).y1 j := by
  rw [out_at]
  show k0_pay61 (k0_pay51 (k0_pay72 x0) (View.ld x0 r0_83)) (ix4 0 0 (rowOf j) (laneOf j)) = _
  pointwise [k0_pay61, k0_pay51, k0_pay71, k0_pay46, k0_pay48, k0_pay72, k0_pay47, k0_pay49]
  rw [h.at_pos, h.at_pos]
  rfl

theorem plane_x2 (h : Padded x0 q) (j : Fin N) : out0_1 x0 (ix4 0 3 (rowOf j) (laneOf j)) = (img q).x2 j := by
  rw [out_at]
  show k0_pay62 (k0_pay52 (k0_pay71 x0) (View.ld x0 r0_82)) (ix4 0 0 (rowOf j) (laneOf j)) = _
  pointwise [k0_pay62, k0_pay52, k0_pay71, k0_pay46, k0_pay48, k0_pay72, k0_pay47, k0_pay49]
  rw [h.at_pos, h.at_pos]
  rfl

theorem plane_y2 (h : Padded x0 q) (j : Fin N) : out0_1 x0 (ix4 0 4 (rowOf j) (laneOf j)) = (img q).y2 j := by
  rw [out_at]
  show k0_pay63 (k0_pay53 (k0_pay72 x0) (View.ld x0 r0_83)) (ix4 0 0 (rowOf j) (laneOf j)) = _
  pointwise [k0_pay63, k0_pay53, k0_pay71, k0_pay46, k0_pay48, k0_pay72, k0_pay47, k0_pay49]
  rw [h.at_pos, h.at_pos]
  rfl

theorem plane_cls (h : Padded x0 q) (j : Fin N) : out0_1 x0 (ix4 0 9 (rowOf j) (laneOf j)) = (img q).cls j := by
  rw [out_at]
  show k0_pay1 (k0_pay70 x0) (ix4 0 0 (rowOf j) (laneOf j)) = _
  pointwise [k0_pay1]
  exact cls_at h j

/-- The scaled corners before they are laid out as planes. -/
theorem nx1_at (h : Padded x0 q) (j : Fin N) : k0_pay54 (k0_pay70 x0) (k0_pay71 x0) (View.ld x0 r0_82) (ix2 (rowOf j) (laneOf j)) = Greedy.nx1 (img q) j := by
  pointwise [k0_pay54, k0_pay50, k0_pay71, k0_pay46, k0_pay48, k0_pay72, k0_pay47, k0_pay49]
  rw [h.at_pos, h.at_pos, cls_at h]
  rfl

theorem plane_nx1 (h : Padded x0 q) (j : Fin N) : out0_1 x0 (ix4 0 5 (rowOf j) (laneOf j)) = Greedy.nx1 (img q) j := by
  rw [out_at]
  show k0_pay64 (k0_pay54 (k0_pay70 x0) (k0_pay71 x0) (View.ld x0 r0_82)) (ix4 0 0 (rowOf j) (laneOf j)) = _
  pointwise [k0_pay64]
  exact nx1_at h j

theorem ny1_at (h : Padded x0 q) (j : Fin N) : k0_pay55 (k0_pay70 x0) (k0_pay72 x0) (View.ld x0 r0_83) (ix2 (rowOf j) (laneOf j)) = Greedy.ny1 (img q) j := by
  pointwise [k0_pay55, k0_pay51, k0_pay71, k0_pay46, k0_pay48, k0_pay72, k0_pay47, k0_pay49]
  rw [h.at_pos, h.at_pos, cls_at h]
  rfl

theorem plane_ny1 (h : Padded x0 q) (j : Fin N) : out0_1 x0 (ix4 0 6 (rowOf j) (laneOf j)) = Greedy.ny1 (img q) j := by
  rw [out_at]
  show k0_pay65 (k0_pay55 (k0_pay70 x0) (k0_pay72 x0) (View.ld x0 r0_83)) (ix4 0 0 (rowOf j) (laneOf j)) = _
  pointwise [k0_pay65]
  exact ny1_at h j

theorem nx2_at (h : Padded x0 q) (j : Fin N) : k0_pay56 (k0_pay70 x0) (k0_pay71 x0) (View.ld x0 r0_82) (ix2 (rowOf j) (laneOf j)) = Greedy.nx2 (img q) j := by
  pointwise [k0_pay56, k0_pay52, k0_pay71, k0_pay46, k0_pay48, k0_pay72, k0_pay47, k0_pay49]
  rw [h.at_pos, h.at_pos, cls_at h]
  rfl

theorem plane_nx2 (h : Padded x0 q) (j : Fin N) : out0_1 x0 (ix4 0 7 (rowOf j) (laneOf j)) = Greedy.nx2 (img q) j := by
  rw [out_at]
  show k0_pay66 (k0_pay56 (k0_pay70 x0) (k0_pay71 x0) (View.ld x0 r0_82)) (ix4 0 0 (rowOf j) (laneOf j)) = _
  pointwise [k0_pay66]
  exact nx2_at h j

theorem ny2_at (h : Padded x0 q) (j : Fin N) : k0_pay57 (k0_pay70 x0) (k0_pay72 x0) (View.ld x0 r0_83) (ix2 (rowOf j) (laneOf j)) = Greedy.ny2 (img q) j := by
  pointwise [k0_pay57, k0_pay53, k0_pay71, k0_pay46, k0_pay48, k0_pay72, k0_pay47, k0_pay49]
  rw [h.at_pos, h.at_pos, cls_at h]
  rfl

theorem plane_ny2 (h : Padded x0 q) (j : Fin N) : out0_1 x0 (ix4 0 8 (rowOf j) (laneOf j)) = Greedy.ny2 (img q) j := by
  rw [out_at]
  show k0_pay67 (k0_pay57 (k0_pay70 x0) (k0_pay72 x0) (View.ld x0 r0_83)) (ix4 0 0 (rowOf j) (laneOf j)) = _
  pointwise [k0_pay67]
  exact ny2_at h j

theorem plane_area (h : Padded x0 q) (j : Fin N) : out0_1 x0 (ix4 0 10 (rowOf j) (laneOf j)) = Greedy.area (img q) j := by
  rw [out_at]
  show k0_pay2 (k0_pay58 (k0_pay70 x0) (k0_pay71 x0) (k0_pay72 x0) (View.ld x0 r0_82) (View.ld x0 r0_83)) (ix4 0 0 (rowOf j) (laneOf j)) = _
  pointwise [k0_pay2, k0_pay58]
  rw [nx1_at h, ny1_at h, nx2_at h, ny2_at h]
  rfl

end

end Cert.KernelIdeal.Body

end
-- ==== Proof.KernelValue.lean ====
/-
  The kernel's result as a value: the padded prediction laid into images, the planes of the first call's array, the rows of
  the second call's, and the result's rows as the greedy choice of each image.
-/
module

public import proofs.«01_k».proof.Proof.KernelIdealRun
public import proofs.«01_k».proof.Proof.KernelPick
public import proofs.«01_k».proof.Proof.KernelPlanes
public import Idealize.ShloMosaic.Lib.Pointwise
public import Idealize.ShloMosaic.Lib.Pipeline.ValueKit
public import Idealize.ShloMosaic.Lib.StableHlo.ReadAt

@[expose] public section

set_option maxRecDepth 16384

noncomputable section

namespace Cert.KernelIdeal.Body

open Cert.KernelIdeal.Gen Cert.Greedy

open Idealize.ShloMosaic Idealize.ShloMosaic.TcCoe Idealize.ShloMosaic.Tactic

variable (m : (ℓ : Loc nD τ sig) → Buf (Elt Ideal) ℓ) (ρ : Dev nD → PrngReg)

/-- Image `b`'s predictions on core `c`. -/
def qOf (c : Dev nD) (b : Fin 16) : Fin 84 → Fin N → EReal := fun k j => m ((c : Thread nD τ).loc main_arg1) (ix3 b k j)

theorem V1_at (c : Dev nD) (b : Fin 16) (k : Fin 84) (r : Fin 160) (l : Fin 128) :
    V1 m ρ c main_call0_v1 (ix4 b k r l) = if h : r.val * 128 + l.val < N then qOf m c b k ⟨r.val * 128 + l.val, h⟩ else 0 := by
  show StableHlo.after hostOps0 (W0 m ρ c) (Proc.devRef .tc main_call0_v1) (ix4 b k r l) = _
  after_reads_at
  rw [show (FloatOps.sitofp FTy.f32 0#32 : Ideal .f32) = 0 by simp [FloatOps.sitofp]]
  rfl

section
variable (V : (c : Dev nD) → (b : Ref sig .tc) → Buf (Elt Ideal) ((c : Thread nD τ).loc b))

/-- The image that a point of the first call's grid works on. -/
def imgOf (t : Fin cfg0.N) : Fin 16 := ⟨t.val, t.isLt⟩

theorem index_in : ∀ t : Fin cfg0.N, win0_0.index t 0 = t.val ∧ win0_0.index t 1 = 0 ∧ win0_0.index t 2 = 0 ∧ win0_0.index t 3 = 0 := by
  decide +kernel
theorem index_out : ∀ t : Fin cfg0.N, win0_1.index t 0 = t.val ∧ win0_1.index t 1 = 0 ∧ win0_1.index t 2 = 0 ∧ win0_1.index t 3 = 0 := by
  decide +kernel

theorem emb_in (t : Fin cfg0.N) (p0 : Fin 1) (p : Fin 84) (r : Fin 160) (l : Fin 128) :
    (win0_0.blk t).view.emb (ix4 p0 p r l) = (ix4 (imgOf t) p r l : S16x84x160x128.Idx) := by
  obtain ⟨h0, h1, h2, h3⟩ := index_in t
  funext a
  apply Fin.ext
  obtain ⟨a, ha⟩ := a
  change a < 4 at ha
  interval_cases a
  all_goals blk_simp
  · rw [h0]; rfl
  · rw [h1]; omega
  · rw [h2]; omega
  · rw [h3]; omega

theorem emb_out (t : Fin cfg0.N) (p0 : Fin 1) (p : Fin 11) (r : Fin 160) (l : Fin 128) :
    (win0_1.blk t).view.emb (ix4 p0 p r l) = (ix4 (imgOf t) p r l : S16x11x160x128.Idx) := by
  obtain ⟨h0, h1, h2, h3⟩ := index_out t
  funext a
  apply Fin.ext
  obtain ⟨a, ha⟩ := a
  change a < 4 at ha
  interval_cases a
  all_goals blk_simp
  · rw [h0]; rfl
  · rw [h1]; omega
  · rw [h2]; omega
  · rw [h3]; omega

/-- The block of image `b` in the array of padded predictions. -/
def blkOf (c : Dev nD) (b : Fin 16) : Vec Ideal S1x84x160x128 .f32 := fun y => V c main_call0_v1 (ix4 b (y 1) (y 2) (y 3))

theorem iblk0_eq (c : Dev nD) (t : Fin cfg0.N) : iblk0 V c 0 t = blkOf V c (imgOf t) := by
  funext y
  obtain ⟨y0, y1, y2, y3, rfl⟩ : ∃ (y0 : Fin 1) (y1 : Fin 84) (y2 : Fin 160) (y3 : Fin 128), y = ix4 y0 y1 y2 y3 :=
    ⟨_, _, _, _, eq_ix4 (n0 := 1) (n1 := 84) (n2 := 160) (n3 := 128) y⟩
  show V c main_call0_v1 ((win0_0.blk t).view.emb (ix4 y0 y1 y2 y3)) = V c main_call0_v1 (ix4 (imgOf t) y1 y2 y3)
  rw [emb_in]

/-- What the first call leaves, by what it makes of one block. -/
theorem planes_of (c : Dev nD) (f : Vec Ideal S1x84x160x128 .f32 → Vec Ideal S1x11x160x128 .f32)
    (hd : ∀ t, (dat0 V c).after 1 t = f (iblk0 V c 0 t)) (i : S16x11x160x128.Idx) :
    (dat0 V c).arrAt 1 cfg0.N i = f (blkOf V c (i 0)) (ix4 0 (i 1) (i 2) (i 3)) := by
  refine (dat0 V c).arrAt_forall_of_covers 1 (fun i v => v = f (blkOf V c (i 0)) (ix4 0 (i 1) (i 2) (i 3))) (by decide +kernel) (fun t hf y => ?_) i
  obtain ⟨y0, y1, y2, y3, rfl⟩ : ∃ (y0 : Fin 1) (y1 : Fin 11) (y2 : Fin 160) (y3 : Fin 128), y = ix4 y0 y1 y2 y3 :=
    ⟨_, _, _, _, eq_ix4 (n0 := 1) (n1 := 11) (n2 := 160) (n3 := 128) y⟩
  blk_simp
  rw [hd, iblk0_eq, emb_out, Subsingleton.elim y0 0]
  rfl

theorem planes_at (c : Dev nD) (b : Fin 16) (p : Fin 11) (r : Fin 160) (l : Fin 128) :
    (dat0 V c).arrAt 1 cfg0.N (ix4 b p r l : S16x11x160x128.Idx) = out0_1 (blkOf V c b) (ix4 0 p r l) :=
  planes_of V c (out0_1 (F := Ideal)) (fun t => after0_1 V c t) (ix4 b p r l)

end

theorem padded (c : Dev nD) (b : Fin 16) : Padded (blkOf (V1 m ρ) c b) (qOf m c b) := fun k r l => V1_at m ρ c b k r l

/-- The planes as the second call finds them. -/
theorem V3_at (c : Dev nD) (b : Fin 16) (p : Fin 11) (r : Fin 160) (l : Fin 128) :
    V3 m ρ c main_call0_v3 (ix5 0 b p r l) = out0_1 (blkOf (V1 m ρ) c b) (ix4 0 p r l) := by
  rw [← planes_at (V1 m ρ) c b p r l, ← W2_arr m ρ c 1]
  show StableHlo.after hostOps1 (W2 m ρ c) (Proc.devRef .tc main_call0_v3) (ix5 0 b p r l) = _
  after_reads_at

/-- The one point of the second call's grid. -/
def pt : Fin cfg1.N := ⟨0, by decide⟩

theorem emb_all (t : Fin cfg1.N) (z : Fin 1) (b : Fin 16) (p : Fin 11) (r : Fin 160) (l : Fin 128) :
    (win1_0.blk t).view.emb (ix5 z b p r l) = (ix5 z b p r l : S1x16x11x160x128.Idx) := by
  have h : ∀ t : Fin cfg1.N, win1_0.index t 0 = 0 ∧ win1_0.index t 1 = 0 ∧ win1_0.index t 2 = 0 ∧ win1_0.index t 3 = 0 ∧ win1_0.index t 4 = 0 := by
    decide +kernel
  obtain ⟨h0, h1, h2, h3, h4⟩ := h t
  funext a
  apply Fin.ext
  obtain ⟨a, ha⟩ := a
  change a < 5 at ha
  interval_cases a
  all_goals blk_simp
  · rw [h0]
  · rw [h1]; simp
  · rw [h2]; simp
  · rw [h3]; simp
  · rw [h4]; simp

theorem iblk1_at (c : Dev nD) (b : Fin 16) (p : Fin 11) (r : Fin 160) (l : Fin 128) :
    (iblk1 (V3 m ρ) c 0 pt : Vec Ideal S1x16x11x160x128 .f32) (ix5 0 b p r l) = out0_1 (blkOf (V1 m ρ) c b) (ix4 0 p r l) := by
  rw [← V3_at]
  show V3 m ρ c main_call0_v3 ((win1_0.blk pt).view.emb (ix5 0 b p r l)) = _
  rw [emb_all]

theorem planes (c : Dev nD) (b : Fin 16) : Planes (iblk1 (V3 m ρ) c 0 pt) b (img (qOf m c b)) where
  start := by simp only [iblk1_at]; exact plane_start (padded m ρ c b)
  x1 j := (iblk1_at m ρ c b 1 _ _).trans (plane_x1 (padded m ρ c b) j)
  y1 j := (iblk1_at m ρ c b 2 _ _).trans (plane_y1 (padded m ρ c b) j)
  x2 j := (iblk1_at m ρ c b 3 _ _).trans (plane_x2 (padded m ρ c b) j)
  y2 j := (iblk1_at m ρ c b 4 _ _).trans (plane_y2 (padded m ρ c b) j)
  nx1 j := (iblk1_at m ρ c b 5 _ _).trans (plane_nx1 (padded m ρ c b) j)
  ny1 j := (iblk1_at m ρ c b 6 _ _).trans (plane_ny1 (padded m ρ c b) j)
  nx2 j := (iblk1_at m ρ c b 7 _ _).trans (plane_nx2 (padded m ρ c b) j)
  ny2 j := (iblk1_at m ρ c b 8 _ _).trans (plane_ny2 (padded m ρ c b) j)
  cls j := (iblk1_at m ρ c b 9 _ _).trans (plane_cls (padded m ρ c b) j)
  area j := (iblk1_at m ρ c b 10 _ _).trans (plane_area (padded m ρ c b) j)

theorem rows_at (c : Dev nD) (G : Arrs1 (F := Ideal) c) (hG : Ends1 m ρ c G) (b : Fin 16) (k : Fin 300) (l : Fin 6) :
    G 1 (ix4 0 b ⟨k.val, by omega⟩ ⟨l.val, by omega⟩ : S1x16x304x8.Idx) = out (img (qOf m c b)) k.val l := by
  obtain ⟨X, hX, hj⟩ := (hG 1).emb_eq_of_wholeAt (t₀ := pt) (by decide +kernel)
  have hR : RowsBelow 300 (iblk1 (V3 m ρ) c 0 pt) X := Pipeline.Dat.toRRel_leaves _ (w := 1) rfl hX
  have := hR ⟨k.val, k.isLt.trans_eq trips_eq.symm⟩ k.isLt (ix4 0 b 0 ⟨l.val, by omega⟩)
  rw [rowS_at (planes m ρ c b)] at this
  rw [← this]
  refine (hj (ix4 0 b ⟨k.val, by omega⟩ ⟨l.val, by omega⟩)).trans ?_
  show X _ = X _
  congr 1
  funext a
  apply Fin.ext
  obtain ⟨a, ha⟩ := a
  change a < 4 at ha
  rw [Rect.emb_apply]
  have e : (rRow ⟨k.val, k.isLt.trans_eq trips_eq.symm⟩).off = ![0, 0, k.val, 0] := off1_eq _
  rw [e]
  interval_cases a
  · simp
  · simp
  · simp
  · simp

theorem value_at (c : Dev nD) (G : Arrs1 (F := Ideal) c) (hG : Ends1 m ρ c G) (b : Fin 16) (k : Fin 300) (l : Fin 6) :
    W5 m ρ c G (Proc.devRef .tc main_v0) (ix3 b k l) = out (img (qOf m c b)) k.val l := by
  rw [← rows_at m ρ c G hG b k l, ← W4_arr m ρ c G 1]
  show StableHlo.after hostOps2 (W4 m ρ c G) (Proc.devRef .tc main_v0) (ix3 b k l) = _
  after_reads_at

end Cert.KernelIdeal.Body
-- ==== Proof.ReferenceOps.lean ====
/-
  The reference's operations, stretch by stretch as the program prints them: five stretches before its loop, the twelve
  of one trip, three after.
-/
module

public import proofs.«01_k».proof.Proof.Gen.ReferenceIdeal
public import Idealize.ShloMosaic.Lib.StableHlo.RunLoop

@[expose] public section

set_option maxRecDepth 16384

noncomputable section

namespace Cert.ReferenceIdeal.Body

open Idealize.ShloMosaic Idealize.ShloMosaic.TcCoe
open Idealize.SL.Sem
open Cert.ReferenceIdeal.Gen

variable {F : FTy → Type} [FloatOps F]

/-- The prediction turned to boxes first; its four box numbers, its 80 scores, the largest score. -/
abbrev pre0 : List (HloOp τ sig (Elt F)) :=
  [ StableHlo.unary main_arg1 main_v0 ((transpose S16x20000x84 [0, 2, 1] · transposes_S16x84x20000_S16x20000x84_0_2_1) : (⟨S16x84x20000, .f32⟩ : BufTy).Contents (Elt F) → (⟨S16x20000x84, .f32⟩ : BufTy).Contents (Elt F)),
    StableHlo.unary main_v0 main_v1 ((extractStridedSlice S16x20000x4 ![0, 0, 0] · slices_S16x20000x84_S16x20000x4_0_0_0) : (⟨S16x20000x84, .f32⟩ : BufTy).Contents (Elt F) → (⟨S16x20000x4, .f32⟩ : BufTy).Contents (Elt F)),
    StableHlo.unary main_v0 main_v2 ((extractStridedSlice S16x20000x80 ![0, 0, 4] · slices_S16x20000x84_S16x20000x80_0_0_4) : (⟨S16x20000x84, .f32⟩ : BufTy).Contents (Elt F) → (⟨S16x20000x80, .f32⟩ : BufTy).Contents (Elt F)),
    StableHlo.nullary main_cst (constant S_ .f32 0xFF800000#32),
    StableHlo.binary main_v2 main_cst main_v3 ((fun x v => Host.reduce FloatOps.maximumf x v reducesTo_S16x20000x80_S16x20000_d2 h_S_) : (⟨S16x20000x80, .f32⟩ : BufTy).Contents (Elt F) → (⟨S_, .f32⟩ : BufTy).Contents (Elt F) → (⟨S16x20000, .f32⟩ : BufTy).Contents (Elt F)) ]

/-- The class: where the largest score stands first. -/
abbrev pre1 : List (HloOp τ sig (Elt F)) :=
  [ StableHlo.TRef.nullary (.of main_call0_v0 : StableHlo.TRef sig ⟨S16x20000x80, .i32⟩) (iotaInDim S16x20000x80 32 2),
    StableHlo.TRef.nullary (.of main_call0_cst : StableHlo.TRef sig ⟨S_, .f32⟩) (constant S_ .f32 0xFF800000#32),
    StableHlo.TRef.nullary (.of main_call0_c : StableHlo.TRef sig ⟨S_, .i32⟩) (constantI S_ 32 0#32),
    StableHlo.TRef.quaternary (.of main_v2 : StableHlo.TRef sig ⟨S16x20000x80, .f32⟩) (.of main_call0_v0 : StableHlo.TRef sig ⟨S16x20000x80, .i32⟩) (.of main_call0_cst : StableHlo.TRef sig ⟨S_, .f32⟩) (.of main_call0_c : StableHlo.TRef sig ⟨S_, .i32⟩) (.of main_call0_v1_0 : StableHlo.TRef sig ⟨S16x20000, .f32⟩) (fun x y u v j => (Host.argReduce reducer_argmax_f32_i32 x y u v reducesTo_S16x20000x80_S16x20000_d2 h_S_ j).1),
    StableHlo.TRef.quaternary (.of main_v2 : StableHlo.TRef sig ⟨S16x20000x80, .f32⟩) (.of main_call0_v0 : StableHlo.TRef sig ⟨S16x20000x80, .i32⟩) (.of main_call0_cst : StableHlo.TRef sig ⟨S_, .f32⟩) (.of main_call0_c : StableHlo.TRef sig ⟨S_, .i32⟩) (.of main_v4 : StableHlo.TRef sig ⟨S16x20000, .i32⟩) (fun x y u v j => (Host.argReduce reducer_argmax_f32_i32 x y u v reducesTo_S16x20000x80_S16x20000_d2 h_S_ j).2) ]

/-- The class as a number, the score threshold, the corners, and the corners over the image size with the class added. -/
abbrev pre2 : List (HloOp τ sig (Elt F)) :=
  [ StableHlo.unary main_v4 main_v5 (sitofp .f32 : (⟨S16x20000, .i32⟩ : BufTy).Contents (Elt F) → (⟨S16x20000, .f32⟩ : BufTy).Contents (Elt F)),
    StableHlo.nullary main_cst_0 (constant S_ .f32 0x3E800000#32),
    StableHlo.unary main_cst_0 main_v6 (broadcastInDim S16x20000 ![] bcast_S_S16x20000 : (⟨S_, .f32⟩ : BufTy).Contents (Elt F) → (⟨S16x20000, .f32⟩ : BufTy).Contents (Elt F)),
    StableHlo.binary main_v3 main_v6 main_v7 (cmpf .ogt : (⟨S16x20000, .f32⟩ : BufTy).Contents (Elt F) → (⟨S16x20000, .f32⟩ : BufTy).Contents (Elt F) → (⟨S16x20000, .i1⟩ : BufTy).Contents (Elt F)),
    StableHlo.unary main_v1 main_v8 ((extractStridedSlice S16x20000x2 ![0, 0, 0] · slices_S16x20000x4_S16x20000x2_0_0_0) : (⟨S16x20000x4, .f32⟩ : BufTy).Contents (Elt F) → (⟨S16x20000x2, .f32⟩ : BufTy).Contents (Elt F)),
    StableHlo.unary main_v1 main_v9 ((extractStridedSlice S16x20000x2 ![0, 0, 2] · slices_S16x20000x4_S16x20000x2_0_0_2) : (⟨S16x20000x4, .f32⟩ : BufTy).Contents (Elt F) → (⟨S16x20000x2, .f32⟩ : BufTy).Contents (Elt F)),
    StableHlo.nullary main_cst_1 (constant S_ .f32 0x40000000#32),
    StableHlo.unary main_cst_1 main_v10 (broadcastInDim S16x20000x2 ![] bcast_S_S16x20000x2 : (⟨S_, .f32⟩ : BufTy).Contents (Elt F) → (⟨S16x20000x2, .f32⟩ : BufTy).Contents (Elt F)),
    StableHlo.binary main_v9 main_v10 main_v11 (Host.divf : (⟨S16x20000x2, .f32⟩ : BufTy).Contents (Elt F) → (⟨S16x20000x2, .f32⟩ : BufTy).Contents (Elt F) → (⟨S16x20000x2, .f32⟩ : BufTy).Contents (Elt F)),
    StableHlo.binary main_v8 main_v11 main_v12 (subf : (⟨S16x20000x2, .f32⟩ : BufTy).Contents (Elt F) → (⟨S16x20000x2, .f32⟩ : BufTy).Contents (Elt F) → (⟨S16x20000x2, .f32⟩ : BufTy).Contents (Elt F)),
    StableHlo.binary main_v8 main_v11 main_v13 (addf : (⟨S16x20000x2, .f32⟩ : BufTy).Contents (Elt F) → (⟨S16x20000x2, .f32⟩ : BufTy).Contents (Elt F) → (⟨S16x20000x2, .f32⟩ : BufTy).Contents (Elt F)),
    StableHlo.binary main_v12 main_v13 main_v14 ((fun a b => concatenate S16x20000x4 2 [⟨S16x20000x2, a⟩, ⟨S16x20000x2, b⟩] concatenates_S16x20000x2_S16x20000x2_S16x20000x4_d2) : (⟨S16x20000x2, .f32⟩ : BufTy).Contents (Elt F) → (⟨S16x20000x2, .f32⟩ : BufTy).Contents (Elt F) → (⟨S16x20000x4, .f32⟩ : BufTy).Contents (Elt F)),
    StableHlo.nullary main_cst_2 (constant S_ .f32 0x44200000#32),
    StableHlo.unary main_cst_2 main_v15 (broadcastInDim S16x20000x4 ![] bcast_S_S16x20000x4 : (⟨S_, .f32⟩ : BufTy).Contents (Elt F) → (⟨S16x20000x4, .f32⟩ : BufTy).Contents (Elt F)),
    StableHlo.binary main_v14 main_v15 main_v16 (Host.divf : (⟨S16x20000x4, .f32⟩ : BufTy).Contents (Elt F) → (⟨S16x20000x4, .f32⟩ : BufTy).Contents (Elt F) → (⟨S16x20000x4, .f32⟩ : BufTy).Contents (Elt F)),
    StableHlo.unary main_v5 main_v17 (broadcastInDim S16x20000x1 ![0, 1] bcast_S16x20000_S16x20000x1_0_1 : (⟨S16x20000, .f32⟩ : BufTy).Contents (Elt F) → (⟨S16x20000x1, .f32⟩ : BufTy).Contents (Elt F)),
    StableHlo.unary main_v17 main_v18 (broadcastInDim S16x20000x4 ![0, 1, 2] bcast_S16x20000x1_S16x20000x4_0_1_2 : (⟨S16x20000x1, .f32⟩ : BufTy).Contents (Elt F) → (⟨S16x20000x4, .f32⟩ : BufTy).Contents (Elt F)),
    StableHlo.binary main_v16 main_v18 main_v19 (addf : (⟨S16x20000x4, .f32⟩ : BufTy).Contents (Elt F) → (⟨S16x20000x4, .f32⟩ : BufTy).Contents (Elt F) → (⟨S16x20000x4, .f32⟩ : BufTy).Contents (Elt F)),
    StableHlo.nullary main_cst_3 (constant S_ .f32 0xFF800000#32) ]

/-- The starting scores: −∞ below the threshold. -/
abbrev pre3 : List (HloOp τ sig (Elt F)) :=
  [ StableHlo.TRef.unary (.of main_cst_3 : StableHlo.TRef sig ⟨S_, .f32⟩) (.of main_call1_v0 : StableHlo.TRef sig ⟨S_, .f32⟩) id,
    StableHlo.TRef.unary (.of main_call1_v0 : StableHlo.TRef sig ⟨S_, .f32⟩) (.of main_call1_v1 : StableHlo.TRef sig ⟨S16x20000, .f32⟩) (broadcastInDim S16x20000 ![] bcast_S_S16x20000),
    StableHlo.TRef.ternary (.of main_v7 : StableHlo.TRef sig ⟨S16x20000, .i1⟩) (.of main_v3 : StableHlo.TRef sig ⟨S16x20000, .f32⟩) (.of main_call1_v1 : StableHlo.TRef sig ⟨S16x20000, .f32⟩) (.of main_v20 : StableHlo.TRef sig ⟨S16x20000, .f32⟩) select ]

/-- What the loop carries, set up. -/
abbrev pre4 : List (HloOp τ sig (Elt F)) :=
  [ StableHlo.nullary main_v21 (iotaInDim S16 32 0),
    StableHlo.nullary main_c (constantI S_ 32 0#32),
    StableHlo.unary main_c main_v22 (broadcastInDim S300x16 ![] bcast_S_S300x16 : (⟨S_, .i32⟩ : BufTy).Contents (Elt F) → (⟨S300x16, .i32⟩ : BufTy).Contents (Elt F)),
    StableHlo.nullary main_c_4 (constantI S_ 32 0#32),
    StableHlo.unary main_v19 main_v23_0 id,
    StableHlo.unary main_v21 main_v23_1 id,
    StableHlo.unary main_c_4 main_v23_2 id,
    StableHlo.unary main_v20 main_v23_3 id,
    StableHlo.unary main_v22 main_v23_4 id ]

/-- Where the largest score stands first. -/
abbrev trip0 : List (HloOp τ sig (Elt F)) :=
  [ StableHlo.TRef.nullary (.of main_while0b_call2_v0 : StableHlo.TRef sig ⟨S16x20000, .i32⟩) (iotaInDim S16x20000 32 1),
    StableHlo.TRef.nullary (.of main_while0b_call2_cst : StableHlo.TRef sig ⟨S_, .f32⟩) (constant S_ .f32 0xFF800000#32),
    StableHlo.TRef.nullary (.of main_while0b_call2_c : StableHlo.TRef sig ⟨S_, .i32⟩) (constantI S_ 32 0#32),
    StableHlo.TRef.quaternary (.of main_v23_3 : StableHlo.TRef sig ⟨S16x20000, .f32⟩) (.of main_while0b_call2_v0 : StableHlo.TRef sig ⟨S16x20000, .i32⟩) (.of main_while0b_call2_cst : StableHlo.TRef sig ⟨S_, .f32⟩) (.of main_while0b_call2_c : StableHlo.TRef sig ⟨S_, .i32⟩) (.of main_while0b_call2_v1_0 : StableHlo.TRef sig ⟨S16, .f32⟩) (fun x y u v j => (Host.argReduce reducer_argmax_f32_i32 x y u v reducesTo_S16x20000_S16_d1 h_S_ j).1),
    StableHlo.TRef.quaternary (.of main_v23_3 : StableHlo.TRef sig ⟨S16x20000, .f32⟩) (.of main_while0b_call2_v0 : StableHlo.TRef sig ⟨S16x20000, .i32⟩) (.of main_while0b_call2_cst : StableHlo.TRef sig ⟨S_, .f32⟩) (.of main_while0b_call2_c : StableHlo.TRef sig ⟨S_, .i32⟩) (.of main_while0b_v39 : StableHlo.TRef sig ⟨S16, .i32⟩) (fun x y u v j => (Host.argReduce reducer_argmax_f32_i32 x y u v reducesTo_S16x20000_S16_d1 h_S_ j).2) ]

/-- That index as a column. -/
abbrev trip1 : List (HloOp τ sig (Elt F)) :=
  [ StableHlo.unary main_while0b_v39 main_while0b_v40 (broadcastInDim S16x1 ![0] bcast_S16_S16x1_0 : (⟨S16, .i32⟩ : BufTy).Contents (Elt F) → (⟨S16x1, .i32⟩ : BufTy).Contents (Elt F)) ]

/-- The score at that index. -/
abbrev trip2 : List (HloOp τ sig (Elt F)) :=
  [ StableHlo.TRef.nullary (.of main_while0b_call3_c : StableHlo.TRef sig ⟨S_, .i32⟩) (constantI S_ 32 0#32),
    StableHlo.TRef.unary (.of main_while0b_call3_c : StableHlo.TRef sig ⟨S_, .i32⟩) (.of main_while0b_call3_v0 : StableHlo.TRef sig ⟨S16x1, .i32⟩) (broadcastInDim S16x1 ![] bcast_S_S16x1),
    StableHlo.TRef.binary (.of main_while0b_v40 : StableHlo.TRef sig ⟨S16x1, .i32⟩) (.of main_while0b_call3_v0 : StableHlo.TRef sig ⟨S16x1, .i32⟩) (.of main_while0b_call3_v1 : StableHlo.TRef sig ⟨S16x1, .i1⟩) (cmpi .slt),
    StableHlo.TRef.nullary (.of main_while0b_call3_c_0 : StableHlo.TRef sig ⟨S_, .i32⟩) (constantI S_ 32 20000#32),
    StableHlo.TRef.unary (.of main_while0b_call3_c_0 : StableHlo.TRef sig ⟨S_, .i32⟩) (.of main_while0b_call3_v2 : StableHlo.TRef sig ⟨S16x1, .i32⟩) (broadcastInDim S16x1 ![] bcast_S_S16x1),
    StableHlo.TRef.binary (.of main_while0b_v40 : StableHlo.TRef sig ⟨S16x1, .i32⟩) (.of main_while0b_call3_v2 : StableHlo.TRef sig ⟨S16x1, .i32⟩) (.of main_while0b_call3_v3 : StableHlo.TRef sig ⟨S16x1, .i32⟩) addi,
    StableHlo.TRef.ternary (.of main_while0b_call3_v1 : StableHlo.TRef sig ⟨S16x1, .i1⟩) (.of main_while0b_call3_v3 : StableHlo.TRef sig ⟨S16x1, .i32⟩) (.of main_while0b_v40 : StableHlo.TRef sig ⟨S16x1, .i32⟩) (.of main_while0b_call3_v4 : StableHlo.TRef sig ⟨S16x1, .i32⟩) select,
    StableHlo.TRef.reshape (.of main_while0b_call3_v4 : StableHlo.TRef sig ⟨S16x1, .i32⟩) (.of main_while0b_call3_v5 : StableHlo.TRef sig ⟨S16x1x1, .i32⟩) (rfl : (.i32 : EltTy) = .i32) shapeCasts_S16x1_S16x1x1,
    StableHlo.TRef.binary (.of main_v23_3 : StableHlo.TRef sig ⟨S16x20000, .f32⟩) (.of main_while0b_call3_v5 : StableHlo.TRef sig ⟨S16x1x1, .i32⟩) (.of main_while0b_v41 : StableHlo.TRef sig ⟨S16x1, .f32⟩) (fun x i => Host.gather gather_S16x20000_S16x1x1_S16x1_n_1_0_0_1_2_11 x i) ]

/-- Whether it is above −∞. -/
abbrev trip3 : List (HloOp τ sig (Elt F)) :=
  [ StableHlo.reshape main_while0b_v41 main_while0b_v42 (rfl : (.f32 : EltTy) = .f32) shapeCasts_S16x1_S16,
    StableHlo.nullary main_while0b_cst_11 (constant S_ .f32 0xFF800000#32),
    StableHlo.unary main_while0b_cst_11 main_while0b_v43 (broadcastInDim S16 ![] bcast_S_S16 : (⟨S_, .f32⟩ : BufTy).Contents (Elt F) → (⟨S16, .f32⟩ : BufTy).Contents (Elt F)),
    StableHlo.binary main_while0b_v42 main_while0b_v43 main_while0b_v44 (cmpf .ogt : (⟨S16, .f32⟩ : BufTy).Contents (Elt F) → (⟨S16, .f32⟩ : BufTy).Contents (Elt F) → (⟨S16, .i1⟩ : BufTy).Contents (Elt F)),
    StableHlo.nullary main_while0b_c_12 (constantI S_ 32 4294967295#32) ]

/-- The index kept, −1 where none is. -/
abbrev trip4 : List (HloOp τ sig (Elt F)) :=
  [ StableHlo.TRef.unary (.of main_while0b_c_12 : StableHlo.TRef sig ⟨S_, .i32⟩) (.of main_while0b_call4_v0 : StableHlo.TRef sig ⟨S16, .i32⟩) (broadcastInDim S16 ![] bcast_S_S16),
    StableHlo.TRef.ternary (.of main_while0b_v44 : StableHlo.TRef sig ⟨S16, .i1⟩) (.of main_while0b_v39 : StableHlo.TRef sig ⟨S16, .i32⟩) (.of main_while0b_call4_v0 : StableHlo.TRef sig ⟨S16, .i32⟩) (.of main_while0b_v45 : StableHlo.TRef sig ⟨S16, .i32⟩) select ]

/-- The index as a block. -/
abbrev trip5 : List (HloOp τ sig (Elt F)) :=
  [ StableHlo.unary main_while0b_v39 main_while0b_v46 (broadcastInDim S16x1 ![0] bcast_S16_S16x1_0 : (⟨S16, .i32⟩ : BufTy).Contents (Elt F) → (⟨S16x1, .i32⟩ : BufTy).Contents (Elt F)),
    StableHlo.unary main_while0b_v46 main_while0b_v47 (broadcastInDim S16x1x1 ![0, 1] bcast_S16x1_S16x1x1_0_1 : (⟨S16x1, .i32⟩ : BufTy).Contents (Elt F) → (⟨S16x1x1, .i32⟩ : BufTy).Contents (Elt F)) ]

/-- The box at that index. -/
abbrev trip6 : List (HloOp τ sig (Elt F)) :=
  [ StableHlo.TRef.nullary (.of main_while0b_call5_c : StableHlo.TRef sig ⟨S_, .i32⟩) (constantI S_ 32 0#32),
    StableHlo.TRef.unary (.of main_while0b_call5_c : StableHlo.TRef sig ⟨S_, .i32⟩) (.of main_while0b_call5_v0 : StableHlo.TRef sig ⟨S16x1x1, .i32⟩) (broadcastInDim S16x1x1 ![] bcast_S_S16x1x1),
    StableHlo.TRef.binary (.of main_while0b_v47 : StableHlo.TRef sig ⟨S16x1x1, .i32⟩) (.of main_while0b_call5_v0 : StableHlo.TRef sig ⟨S16x1x1, .i32⟩) (.of main_while0b_call5_v1 : StableHlo.TRef sig ⟨S16x1x1, .i1⟩) (cmpi .slt),
    StableHlo.TRef.nullary (.of main_while0b_call5_c_0 : StableHlo.TRef sig ⟨S_, .i32⟩) (constantI S_ 32 20000#32),
    StableHlo.TRef.unary (.of main_while0b_call5_c_0 : StableHlo.TRef sig ⟨S_, .i32⟩) (.of main_while0b_call5_v2 : StableHlo.TRef sig ⟨S16x1x1, .i32⟩) (broadcastInDim S16x1x1 ![] bcast_S_S16x1x1),
    StableHlo.TRef.binary (.of main_while0b_v47 : StableHlo.TRef sig ⟨S16x1x1, .i32⟩) (.of main_while0b_call5_v2 : StableHlo.TRef sig ⟨S16x1x1, .i32⟩) (.of main_while0b_call5_v3 : StableHlo.TRef sig ⟨S16x1x1, .i32⟩) addi,
    StableHlo.TRef.ternary (.of main_while0b_call5_v1 : StableHlo.TRef sig ⟨S16x1x1, .i1⟩) (.of main_while0b_call5_v3 : StableHlo.TRef sig ⟨S16x1x1, .i32⟩) (.of main_while0b_v47 : StableHlo.TRef sig ⟨S16x1x1, .i32⟩) (.of main_while0b_call5_v4 : StableHlo.TRef sig ⟨S16x1x1, .i32⟩) select,
    StableHlo.TRef.binary (.of main_v23_0 : StableHlo.TRef sig ⟨S16x20000x4, .f32⟩) (.of main_while0b_call5_v4 : StableHlo.TRef sig ⟨S16x1x1, .i32⟩) (.of main_while0b_v48 : StableHlo.TRef sig ⟨S16x1x4, .f32⟩) (fun x i => Host.gather gather_S16x20000x4_S16x1x1_S16x1x4_2_1_0_0_1_2_114 x i) ]

/-- The overlap of that box with every box, and which are above the threshold. -/
abbrev trip7 : List (HloOp τ sig (Elt F)) :=
  [ StableHlo.unary main_while0b_v48 main_while0b_v49 ((extractStridedSlice S16x1x2 ![0, 0, 0] · slices_S16x1x4_S16x1x2_0_0_0) : (⟨S16x1x4, .f32⟩ : BufTy).Contents (Elt F) → (⟨S16x1x2, .f32⟩ : BufTy).Contents (Elt F)),
    StableHlo.unary main_v23_0 main_while0b_v50 ((extractStridedSlice S16x20000x2 ![0, 0, 0] · slices_S16x20000x4_S16x20000x2_0_0_0) : (⟨S16x20000x4, .f32⟩ : BufTy).Contents (Elt F) → (⟨S16x20000x2, .f32⟩ : BufTy).Contents (Elt F)),
    StableHlo.unary main_while0b_v49 main_while0b_v51 (broadcastInDim S16x20000x2 ![0, 1, 2] bcast_S16x1x2_S16x20000x2_0_1_2 : (⟨S16x1x2, .f32⟩ : BufTy).Contents (Elt F) → (⟨S16x20000x2, .f32⟩ : BufTy).Contents (Elt F)),
    StableHlo.binary main_while0b_v51 main_while0b_v50 main_while0b_v52 (maximumf : (⟨S16x20000x2, .f32⟩ : BufTy).Contents (Elt F) → (⟨S16x20000x2, .f32⟩ : BufTy).Contents (Elt F) → (⟨S16x20000x2, .f32⟩ : BufTy).Contents (Elt F)),
    StableHlo.unary main_while0b_v48 main_while0b_v53 ((extractStridedSlice S16x1x2 ![0, 0, 2] · slices_S16x1x4_S16x1x2_0_0_2) : (⟨S16x1x4, .f32⟩ : BufTy).Contents (Elt F) → (⟨S16x1x2, .f32⟩ : BufTy).Contents (Elt F)),
    StableHlo.unary main_v23_0 main_while0b_v54 ((extractStridedSlice S16x20000x2 ![0, 0, 2] · slices_S16x20000x4_S16x20000x2_0_0_2) : (⟨S16x20000x4, .f32⟩ : BufTy).Contents (Elt F) → (⟨S16x20000x2, .f32⟩ : BufTy).Contents (Elt F)),
    StableHlo.unary main_while0b_v53 main_while0b_v55 (broadcastInDim S16x20000x2 ![0, 1, 2] bcast_S16x1x2_S16x20000x2_0_1_2 : (⟨S16x1x2, .f32⟩ : BufTy).Contents (Elt F) → (⟨S16x20000x2, .f32⟩ : BufTy).Contents (Elt F)),
    StableHlo.binary main_while0b_v55 main_while0b_v54 main_while0b_v56 (minimumf : (⟨S16x20000x2, .f32⟩ : BufTy).Contents (Elt F) → (⟨S16x20000x2, .f32⟩ : BufTy).Contents (Elt F) → (⟨S16x20000x2, .f32⟩ : BufTy).Contents (Elt F)),
    StableHlo.binary main_while0b_v56 main_while0b_v52 main_while0b_v57 (subf : (⟨S16x20000x2, .f32⟩ : BufTy).Contents (Elt F) → (⟨S16x20000x2, .f32⟩ : BufTy).Contents (Elt F) → (⟨S16x20000x2, .f32⟩ : BufTy).Contents (Elt F)),
    StableHlo.nullary main_while0b_cst_13 (constant S_ .f32 0x00000000#32),
    StableHlo.unary main_while0b_cst_13 main_while0b_v58 (broadcastInDim S16x20000x2 ![] bcast_S_S16x20000x2 : (⟨S_, .f32⟩ : BufTy).Contents (Elt F) → (⟨S16x20000x2, .f32⟩ : BufTy).Contents (Elt F)),
    StableHlo.binary main_while0b_v57 main_while0b_v58 main_while0b_v59 (maximumf : (⟨S16x20000x2, .f32⟩ : BufTy).Contents (Elt F) → (⟨S16x20000x2, .f32⟩ : BufTy).Contents (Elt F) → (⟨S16x20000x2, .f32⟩ : BufTy).Contents (Elt F)),
    StableHlo.unary main_while0b_v59 main_while0b_v60 ((extractStridedSlice S16x20000x1 ![0, 0, 0] · slices_S16x20000x2_S16x20000x1_0_0_0) : (⟨S16x20000x2, .f32⟩ : BufTy).Contents (Elt F) → (⟨S16x20000x1, .f32⟩ : BufTy).Contents (Elt F)),
    StableHlo.reshape main_while0b_v60 main_while0b_v61 (rfl : (.f32 : EltTy) = .f32) shapeCasts_S16x20000x1_S16x20000,
    StableHlo.unary main_while0b_v59 main_while0b_v62 ((extractStridedSlice S16x20000x1 ![0, 0, 1] · slices_S16x20000x2_S16x20000x1_0_0_1) : (⟨S16x20000x2, .f32⟩ : BufTy).Contents (Elt F) → (⟨S16x20000x1, .f32⟩ : BufTy).Contents (Elt F)),
    StableHlo.reshape main_while0b_v62 main_while0b_v63 (rfl : (.f32 : EltTy) = .f32) shapeCasts_S16x20000x1_S16x20000,
    StableHlo.binary main_while0b_v61 main_while0b_v63 main_while0b_v64 (mulf : (⟨S16x20000, .f32⟩ : BufTy).Contents (Elt F) → (⟨S16x20000, .f32⟩ : BufTy).Contents (Elt F) → (⟨S16x20000, .f32⟩ : BufTy).Contents (Elt F)),
    StableHlo.unary main_while0b_v48 main_while0b_v65 ((extractStridedSlice S16x1x1 ![0, 0, 2] · slices_S16x1x4_S16x1x1_0_0_2) : (⟨S16x1x4, .f32⟩ : BufTy).Contents (Elt F) → (⟨S16x1x1, .f32⟩ : BufTy).Contents (Elt F)),
    StableHlo.reshape main_while0b_v65 main_while0b_v66 (rfl : (.f32 : EltTy) = .f32) shapeCasts_S16x1x1_S16x1,
    StableHlo.unary main_while0b_v48 main_while0b_v67 ((extractStridedSlice S16x1x1 ![0, 0, 0] · slices_S16x1x4_S16x1x1_0_0_0) : (⟨S16x1x4, .f32⟩ : BufTy).Contents (Elt F) → (⟨S16x1x1, .f32⟩ : BufTy).Contents (Elt F)),
    StableHlo.reshape main_while0b_v67 main_while0b_v68 (rfl : (.f32 : EltTy) = .f32) shapeCasts_S16x1x1_S16x1,
    StableHlo.binary main_while0b_v66 main_while0b_v68 main_while0b_v69 (subf : (⟨S16x1, .f32⟩ : BufTy).Contents (Elt F) → (⟨S16x1, .f32⟩ : BufTy).Contents (Elt F) → (⟨S16x1, .f32⟩ : BufTy).Contents (Elt F)),
    StableHlo.nullary main_while0b_cst_14 (constant S_ .f32 0x00000000#32),
    StableHlo.unary main_while0b_cst_14 main_while0b_v70 (broadcastInDim S16x1 ![] bcast_S_S16x1 : (⟨S_, .f32⟩ : BufTy).Contents (Elt F) → (⟨S16x1, .f32⟩ : BufTy).Contents (Elt F)),
    StableHlo.binary main_while0b_v69 main_while0b_v70 main_while0b_v71 (maximumf : (⟨S16x1, .f32⟩ : BufTy).Contents (Elt F) → (⟨S16x1, .f32⟩ : BufTy).Contents (Elt F) → (⟨S16x1, .f32⟩ : BufTy).Contents (Elt F)),
    StableHlo.unary main_while0b_v48 main_while0b_v72 ((extractStridedSlice S16x1x1 ![0, 0, 3] · slices_S16x1x4_S16x1x1_0_0_3) : (⟨S16x1x4, .f32⟩ : BufTy).Contents (Elt F) → (⟨S16x1x1, .f32⟩ : BufTy).Contents (Elt F)),
    StableHlo.reshape main_while0b_v72 main_while0b_v73 (rfl : (.f32 : EltTy) = .f32) shapeCasts_S16x1x1_S16x1,
    StableHlo.unary main_while0b_v48 main_while0b_v74 ((extractStridedSlice S16x1x1 ![0, 0, 1] · slices_S16x1x4_S16x1x1_0_0_1) : (⟨S16x1x4, .f32⟩ : BufTy).Contents (Elt F) → (⟨S16x1x1, .f32⟩ : BufTy).Contents (Elt F)),
    StableHlo.reshape main_while0b_v74 main_while0b_v75 (rfl : (.f32 : EltTy) = .f32) shapeCasts_S16x1x1_S16x1,
    StableHlo.binary main_while0b_v73 main_while0b_v75 main_while0b_v76 (subf : (⟨S16x1, .f32⟩ : BufTy).Contents (Elt F) → (⟨S16x1, .f32⟩ : BufTy).Contents (Elt F) → (⟨S16x1, .f32⟩ : BufTy).Contents (Elt F)),
    StableHlo.nullary main_while0b_cst_15 (constant S_ .f32 0x00000000#32),
    StableHlo.unary main_while0b_cst_15 main_while0b_v77 (broadcastInDim S16x1 ![] bcast_S_S16x1 : (⟨S_, .f32⟩ : BufTy).Contents (Elt F) → (⟨S16x1, .f32⟩ : BufTy).Contents (Elt F)),
    StableHlo.binary main_while0b_v76 main_while0b_v77 main_while0b_v78 (maximumf : (⟨S16x1, .f32⟩ : BufTy).Contents (Elt F) → (⟨S16x1, .f32⟩ : BufTy).Contents (Elt F) → (⟨S16x1, .f32⟩ : BufTy).Contents (Elt F)),
    StableHlo.binary main_while0b_v71 main_while0b_v78 main_while0b_v79 (mulf : (⟨S16x1, .f32⟩ : BufTy).Contents (Elt F) → (⟨S16x1, .f32⟩ : BufTy).Contents (Elt F) → (⟨S16x1, .f32⟩ : BufTy).Contents (Elt F)),
    StableHlo.unary main_v23_0 main_while0b_v80 ((extractStridedSlice S16x20000x1 ![0, 0, 2] · slices_S16x20000x4_S16x20000x1_0_0_2) : (⟨S16x20000x4, .f32⟩ : BufTy).Contents (Elt F) → (⟨S16x20000x1, .f32⟩ : BufTy).Contents (Elt F)),
    StableHlo.reshape main_while0b_v80 main_while0b_v81 (rfl : (.f32 : EltTy) = .f32) shapeCasts_S16x20000x1_S16x20000,
    StableHlo.unary main_v23_0 main_while0b_v82 ((extractStridedSlice S16x20000x1 ![0, 0, 0] · slices_S16x20000x4_S16x20000x1_0_0_0) : (⟨S16x20000x4, .f32⟩ : BufTy).Contents (Elt F) → (⟨S16x20000x1, .f32⟩ : BufTy).Contents (Elt F)),
    StableHlo.reshape main_while0b_v82 main_while0b_v83 (rfl : (.f32 : EltTy) = .f32) shapeCasts_S16x20000x1_S16x20000,
    StableHlo.binary main_while0b_v81 main_while0b_v83 main_while0b_v84 (subf : (⟨S16x20000, .f32⟩ : BufTy).Contents (Elt F) → (⟨S16x20000, .f32⟩ : BufTy).Contents (Elt F) → (⟨S16x20000, .f32⟩ : BufTy).Contents (Elt F)),
    StableHlo.nullary main_while0b_cst_16 (constant S_ .f32 0x00000000#32),
    StableHlo.unary main_while0b_cst_16 main_while0b_v85 (broadcastInDim S16x20000 ![] bcast_S_S16x20000 : (⟨S_, .f32⟩ : BufTy).Contents (Elt F) → (⟨S16x20000, .f32⟩ : BufTy).Contents (Elt F)),
    StableHlo.binary main_while0b_v84 main_while0b_v85 main_while0b_v86 (maximumf : (⟨S16x20000, .f32⟩ : BufTy).Contents (Elt F) → (⟨S16x20000, .f32⟩ : BufTy).Contents (Elt F) → (⟨S16x20000, .f32⟩ : BufTy).Contents (Elt F)),
    StableHlo.unary main_v23_0 main_while0b_v87 ((extractStridedSlice S16x20000x1 ![0, 0, 3] · slices_S16x20000x4_S16x20000x1_0_0_3) : (⟨S16x20000x4, .f32⟩ : BufTy).Contents (Elt F) → (⟨S16x20000x1, .f32⟩ : BufTy).Contents (Elt F)),
    StableHlo.reshape main_while0b_v87 main_while0b_v88 (rfl : (.f32 : EltTy) = .f32) shapeCasts_S16x20000x1_S16x20000,
    StableHlo.unary main_v23_0 main_while0b_v89 ((extractStridedSlice S16x20000x1 ![0, 0, 1] · slices_S16x20000x4_S16x20000x1_0_0_1) : (⟨S16x20000x4, .f32⟩ : BufTy).Contents (Elt F) → (⟨S16x20000x1, .f32⟩ : BufTy).Contents (Elt F)),
    StableHlo.reshape main_while0b_v89 main_while0b_v90 (rfl : (.f32 : EltTy) = .f32) shapeCasts_S16x20000x1_S16x20000,
    StableHlo.binary main_while0b_v88 main_while0b_v90 main_while0b_v91 (subf : (⟨S16x20000, .f32⟩ : BufTy).Contents (Elt F) → (⟨S16x20000, .f32⟩ : BufTy).Contents (Elt F) → (⟨S16x20000, .f32⟩ : BufTy).Contents (Elt F)),
    StableHlo.nullary main_while0b_cst_17 (constant S_ .f32 0x00000000#32),
    StableHlo.unary main_while0b_cst_17 main_while0b_v92 (broadcastInDim S16x20000 ![] bcast_S_S16x20000 : (⟨S_, .f32⟩ : BufTy).Contents (Elt F) → (⟨S16x20000, .f32⟩ : BufTy).Contents (Elt F)),
    StableHlo.binary main_while0b_v91 main_while0b_v92 main_while0b_v93 (maximumf : (⟨S16x20000, .f32⟩ : BufTy).Contents (Elt F) → (⟨S16x20000, .f32⟩ : BufTy).Contents (Elt F) → (⟨S16x20000, .f32⟩ : BufTy).Contents (Elt F)),
    StableHlo.binary main_while0b_v86 main_while0b_v93 main_while0b_v94 (mulf : (⟨S16x20000, .f32⟩ : BufTy).Contents (Elt F) → (⟨S16x20000, .f32⟩ : BufTy).Contents (Elt F) → (⟨S16x20000, .f32⟩ : BufTy).Contents (Elt F)),
    StableHlo.unary main_while0b_v79 main_while0b_v95 (broadcastInDim S16x20000 ![0, 1] bcast_S16x1_S16x20000_0_1 : (⟨S16x1, .f32⟩ : BufTy).Contents (Elt F) → (⟨S16x20000, .f32⟩ : BufTy).Contents (Elt F)),
    StableHlo.binary main_while0b_v95 main_while0b_v94 main_while0b_v96 (addf : (⟨S16x20000, .f32⟩ : BufTy).Contents (Elt F) → (⟨S16x20000, .f32⟩ : BufTy).Contents (Elt F) → (⟨S16x20000, .f32⟩ : BufTy).Contents (Elt F)),
    StableHlo.binary main_while0b_v96 main_while0b_v64 main_while0b_v97 (subf : (⟨S16x20000, .f32⟩ : BufTy).Contents (Elt F) → (⟨S16x20000, .f32⟩ : BufTy).Contents (Elt F) → (⟨S16x20000, .f32⟩ : BufTy).Contents (Elt F)),
    StableHlo.nullary main_while0b_cst_18 (constant S_ .f32 0x33D6BF95#32),
    StableHlo.unary main_while0b_cst_18 main_while0b_v98 (broadcastInDim S16x20000 ![] bcast_S_S16x20000 : (⟨S_, .f32⟩ : BufTy).Contents (Elt F) → (⟨S16x20000, .f32⟩ : BufTy).Contents (Elt F)),
    StableHlo.binary main_while0b_v97 main_while0b_v98 main_while0b_v99 (addf : (⟨S16x20000, .f32⟩ : BufTy).Contents (Elt F) → (⟨S16x20000, .f32⟩ : BufTy).Contents (Elt F) → (⟨S16x20000, .f32⟩ : BufTy).Contents (Elt F)),
    StableHlo.binary main_while0b_v64 main_while0b_v99 main_while0b_v100 (Host.divf : (⟨S16x20000, .f32⟩ : BufTy).Contents (Elt F) → (⟨S16x20000, .f32⟩ : BufTy).Contents (Elt F) → (⟨S16x20000, .f32⟩ : BufTy).Contents (Elt F)),
    StableHlo.nullary main_while0b_cst_19 (constant S_ .f32 0x3EE66666#32),
    StableHlo.unary main_while0b_cst_19 main_while0b_v101 (broadcastInDim S16x20000 ![] bcast_S_S16x20000 : (⟨S_, .f32⟩ : BufTy).Contents (Elt F) → (⟨S16x20000, .f32⟩ : BufTy).Contents (Elt F)),
    StableHlo.binary main_while0b_v100 main_while0b_v101 main_while0b_v102 (cmpf .ogt : (⟨S16x20000, .f32⟩ : BufTy).Contents (Elt F) → (⟨S16x20000, .f32⟩ : BufTy).Contents (Elt F) → (⟨S16x20000, .i1⟩ : BufTy).Contents (Elt F)),
    StableHlo.nullary main_while0b_cst_20 (constant S_ .f32 0xFF800000#32) ]

/-- The scores of the boxes that overlap put to −∞. -/
abbrev trip8 : List (HloOp τ sig (Elt F)) :=
  [ StableHlo.TRef.unary (.of main_while0b_cst_20 : StableHlo.TRef sig ⟨S_, .f32⟩) (.of main_while0b_call6_v0 : StableHlo.TRef sig ⟨S_, .f32⟩) id,
    StableHlo.TRef.unary (.of main_while0b_call6_v0 : StableHlo.TRef sig ⟨S_, .f32⟩) (.of main_while0b_call6_v1 : StableHlo.TRef sig ⟨S16x20000, .f32⟩) (broadcastInDim S16x20000 ![] bcast_S_S16x20000),
    StableHlo.TRef.ternary (.of main_while0b_v102 : StableHlo.TRef sig ⟨S16x20000, .i1⟩) (.of main_while0b_call6_v1 : StableHlo.TRef sig ⟨S16x20000, .f32⟩) (.of main_v23_3 : StableHlo.TRef sig ⟨S16x20000, .f32⟩) (.of main_while0b_v103 : StableHlo.TRef sig ⟨S16x20000, .f32⟩) select ]

/-- The score at the index put to −∞. -/
abbrev trip9 : List (HloOp τ sig (Elt F)) :=
  [ StableHlo.nullary main_while0b_c_21 (constantI S_ 32 0#32),
    StableHlo.unary main_while0b_c_21 main_while0b_v104 (broadcastInDim S16 ![] bcast_S_S16 : (⟨S_, .i32⟩ : BufTy).Contents (Elt F) → (⟨S16, .i32⟩ : BufTy).Contents (Elt F)),
    StableHlo.binary main_v23_1 main_while0b_v104 main_while0b_v105 (cmpi .slt : (⟨S16, .i32⟩ : BufTy).Contents (Elt F) → (⟨S16, .i32⟩ : BufTy).Contents (Elt F) → (⟨S16, .i1⟩ : BufTy).Contents (Elt F)),
    StableHlo.nullary main_while0b_c_22 (constantI S_ 32 16#32),
    StableHlo.unary main_while0b_c_22 main_while0b_v106 (broadcastInDim S16 ![] bcast_S_S16 : (⟨S_, .i32⟩ : BufTy).Contents (Elt F) → (⟨S16, .i32⟩ : BufTy).Contents (Elt F)),
    StableHlo.binary main_v23_1 main_while0b_v106 main_while0b_v107 (addi : (⟨S16, .i32⟩ : BufTy).Contents (Elt F) → (⟨S16, .i32⟩ : BufTy).Contents (Elt F) → (⟨S16, .i32⟩ : BufTy).Contents (Elt F)),
    StableHlo.ternary main_while0b_v105 main_while0b_v107 main_v23_1 main_while0b_v108 (select : (⟨S16, .i1⟩ : BufTy).Contents (Elt F) → (⟨S16, .i32⟩ : BufTy).Contents (Elt F) → (⟨S16, .i32⟩ : BufTy).Contents (Elt F) → (⟨S16, .i32⟩ : BufTy).Contents (Elt F)),
    StableHlo.nullary main_while0b_c_23 (constantI S_ 32 0#32),
    StableHlo.unary main_while0b_c_23 main_while0b_v109 (broadcastInDim S16 ![] bcast_S_S16 : (⟨S_, .i32⟩ : BufTy).Contents (Elt F) → (⟨S16, .i32⟩ : BufTy).Contents (Elt F)),
    StableHlo.binary main_while0b_v39 main_while0b_v109 main_while0b_v110 (cmpi .slt : (⟨S16, .i32⟩ : BufTy).Contents (Elt F) → (⟨S16, .i32⟩ : BufTy).Contents (Elt F) → (⟨S16, .i1⟩ : BufTy).Contents (Elt F)),
    StableHlo.nullary main_while0b_c_24 (constantI S_ 32 20000#32),
    StableHlo.unary main_while0b_c_24 main_while0b_v111 (broadcastInDim S16 ![] bcast_S_S16 : (⟨S_, .i32⟩ : BufTy).Contents (Elt F) → (⟨S16, .i32⟩ : BufTy).Contents (Elt F)),
    StableHlo.binary main_while0b_v39 main_while0b_v111 main_while0b_v112 (addi : (⟨S16, .i32⟩ : BufTy).Contents (Elt F) → (⟨S16, .i32⟩ : BufTy).Contents (Elt F) → (⟨S16, .i32⟩ : BufTy).Contents (Elt F)),
    StableHlo.ternary main_while0b_v110 main_while0b_v112 main_while0b_v39 main_while0b_v113 (select : (⟨S16, .i1⟩ : BufTy).Contents (Elt F) → (⟨S16, .i32⟩ : BufTy).Contents (Elt F) → (⟨S16, .i32⟩ : BufTy).Contents (Elt F) → (⟨S16, .i32⟩ : BufTy).Contents (Elt F)),
    StableHlo.unary main_while0b_v108 main_while0b_v114 (broadcastInDim S16x1 ![0] bcast_S16_S16x1_0 : (⟨S16, .i32⟩ : BufTy).Contents (Elt F) → (⟨S16x1, .i32⟩ : BufTy).Contents (Elt F)),
    StableHlo.unary main_while0b_v113 main_while0b_v115 (broadcastInDim S16x1 ![0] bcast_S16_S16x1_0 : (⟨S16, .i32⟩ : BufTy).Contents (Elt F) → (⟨S16x1, .i32⟩ : BufTy).Contents (Elt F)),
    StableHlo.binary main_while0b_v114 main_while0b_v115 main_while0b_v116 ((fun a b => concatenate S16x2 1 [⟨S16x1, a⟩, ⟨S16x1, b⟩] concatenates_S16x1_S16x1_S16x2_d1) : (⟨S16x1, .i32⟩ : BufTy).Contents (Elt F) → (⟨S16x1, .i32⟩ : BufTy).Contents (Elt F) → (⟨S16x2, .i32⟩ : BufTy).Contents (Elt F)),
    StableHlo.nullary main_while0b_cst_25 (constant S_ .f32 0xFF800000#32),
    StableHlo.unary main_while0b_cst_25 main_while0b_v117 (broadcastInDim S16 ![] bcast_S_S16 : (⟨S_, .f32⟩ : BufTy).Contents (Elt F) → (⟨S16, .f32⟩ : BufTy).Contents (Elt F)),
    StableHlo.ternary main_while0b_v103 main_while0b_v116 main_while0b_v117 main_while0b_v118 ((fun x i u => Host.scatter scatter_S16x20000_S16x2_S16_n_01_01_1 (fun _ b => b) x i u) : (⟨S16x20000, .f32⟩ : BufTy).Contents (Elt F) → (⟨S16x2, .i32⟩ : BufTy).Contents (Elt F) → (⟨S16, .f32⟩ : BufTy).Contents (Elt F) → (⟨S16x20000, .f32⟩ : BufTy).Contents (Elt F)) ]

/-- The kept index stored. -/
abbrev trip10 : List (HloOp τ sig (Elt F)) :=
  [ StableHlo.TRef.unary (.of main_while0b_v45 : StableHlo.TRef sig ⟨S16, .i32⟩) (.of main_while0b_call7_v0 : StableHlo.TRef sig ⟨S1x16, .i32⟩) (broadcastInDim S1x16 ![1] bcast_S16_S1x16_1),
    StableHlo.TRef.nullary (.of main_while0b_call7_c : StableHlo.TRef sig ⟨S_, .i32⟩) (constantI S_ 32 0#32),
    StableHlo.TRef.binaryIndexed (.of main_v23_4 : StableHlo.TRef sig ⟨S300x16, .i32⟩) (.of main_while0b_call7_v0 : StableHlo.TRef sig ⟨S1x16, .i32⟩) ![(.of main_v23_2 : StableHlo.TRef sig ⟨S_, .i32⟩), (.of main_while0b_call7_c : StableHlo.TRef sig ⟨S_, .i32⟩)] (.of main_while0b_v119 : StableHlo.TRef sig ⟨S300x16, .i32⟩) (fun x u i => Host.dynamicUpdateSlice x u (fun k => (i k (Shape.Idx.first h_S_)).toInt) updateFits_S300x16_S1x16) ]

/-- The counter, the scores and the kept indices carried on. -/
abbrev trip11 : List (HloOp τ sig (Elt F)) :=
  [ StableHlo.nullary main_while0b_c_26 (constantI S_ 32 1#32),
    StableHlo.binary main_v23_2 main_while0b_c_26 main_while0b_v120 (addi : (⟨S_, .i32⟩ : BufTy).Contents (Elt F) → (⟨S_, .i32⟩ : BufTy).Contents (Elt F) → (⟨S_, .i32⟩ : BufTy).Contents (Elt F)),
    StableHlo.unary main_while0b_v120 main_v23_2 id,
    StableHlo.unary main_while0b_v118 main_v23_3 id,
    StableHlo.unary main_while0b_v119 main_v23_4 id ]

/-- The kept indices turned, their mask, the rows of box, score and class. -/
abbrev post0 : List (HloOp τ sig (Elt F)) :=
  [ StableHlo.unary main_v23_4 main_v24 ((transpose S16x300 [1, 0] · transposes_S300x16_S16x300_1_0) : (⟨S300x16, .i32⟩ : BufTy).Contents (Elt F) → (⟨S16x300, .i32⟩ : BufTy).Contents (Elt F)),
    StableHlo.nullary main_c_5 (constantI S_ 32 0#32),
    StableHlo.unary main_c_5 main_v25 (broadcastInDim S16x300 ![] bcast_S_S16x300 : (⟨S_, .i32⟩ : BufTy).Contents (Elt F) → (⟨S16x300, .i32⟩ : BufTy).Contents (Elt F)),
    StableHlo.binary main_v24 main_v25 main_v26 (maxsi : (⟨S16x300, .i32⟩ : BufTy).Contents (Elt F) → (⟨S16x300, .i32⟩ : BufTy).Contents (Elt F) → (⟨S16x300, .i32⟩ : BufTy).Contents (Elt F)),
    StableHlo.nullary main_c_6 (constantI S_ 32 0#32),
    StableHlo.unary main_c_6 main_v27 (broadcastInDim S16x300 ![] bcast_S_S16x300 : (⟨S_, .i32⟩ : BufTy).Contents (Elt F) → (⟨S16x300, .i32⟩ : BufTy).Contents (Elt F)),
    StableHlo.binary main_v24 main_v27 main_v28 (cmpi .sge : (⟨S16x300, .i32⟩ : BufTy).Contents (Elt F) → (⟨S16x300, .i32⟩ : BufTy).Contents (Elt F) → (⟨S16x300, .i1⟩ : BufTy).Contents (Elt F)),
    StableHlo.unary main_v28 main_v29 ((extui 32 · natLt_1_32) : (⟨S16x300, .i1⟩ : BufTy).Contents (Elt F) → (⟨S16x300, .i32⟩ : BufTy).Contents (Elt F)),
    StableHlo.unary main_v29 main_v30 (sitofp .f32 : (⟨S16x300, .i32⟩ : BufTy).Contents (Elt F) → (⟨S16x300, .f32⟩ : BufTy).Contents (Elt F)),
    StableHlo.unary main_v30 main_v31 (broadcastInDim S16x300x1 ![0, 1] bcast_S16x300_S16x300x1_0_1 : (⟨S16x300, .f32⟩ : BufTy).Contents (Elt F) → (⟨S16x300x1, .f32⟩ : BufTy).Contents (Elt F)),
    StableHlo.unary main_v3 main_v32 (broadcastInDim S16x20000x1 ![0, 1] bcast_S16x20000_S16x20000x1_0_1 : (⟨S16x20000, .f32⟩ : BufTy).Contents (Elt F) → (⟨S16x20000x1, .f32⟩ : BufTy).Contents (Elt F)),
    StableHlo.unary main_v5 main_v33 (broadcastInDim S16x20000x1 ![0, 1] bcast_S16x20000_S16x20000x1_0_1 : (⟨S16x20000, .f32⟩ : BufTy).Contents (Elt F) → (⟨S16x20000x1, .f32⟩ : BufTy).Contents (Elt F)),
    StableHlo.nary ![main_v14, main_v32, main_v33] main_v34 (fun u => (concatenate S16x20000x6 2 [⟨S16x20000x4, (u 0 : (⟨S16x20000x4, .f32⟩ : BufTy).Contents (Elt F))⟩, ⟨S16x20000x1, (u 1 : (⟨S16x20000x1, .f32⟩ : BufTy).Contents (Elt F))⟩, ⟨S16x20000x1, (u 2 : (⟨S16x20000x1, .f32⟩ : BufTy).Contents (Elt F))⟩] concatenates_S16x20000x4_S16x20000x1_S16x20000x1_S16x20000x6_d2 : (⟨S16x20000x6, .f32⟩ : BufTy).Contents (Elt F))),
    StableHlo.unary main_v26 main_v35 (broadcastInDim S16x300x1 ![0, 1] bcast_S16x300_S16x300x1_0_1 : (⟨S16x300, .i32⟩ : BufTy).Contents (Elt F) → (⟨S16x300x1, .i32⟩ : BufTy).Contents (Elt F)) ]

/-- The rows taken at the kept indices. -/
abbrev post1 : List (HloOp τ sig (Elt F)) :=
  [ StableHlo.TRef.nullary (.of main_call8_c : StableHlo.TRef sig ⟨S_, .i32⟩) (constantI S_ 32 0#32),
    StableHlo.TRef.unary (.of main_call8_c : StableHlo.TRef sig ⟨S_, .i32⟩) (.of main_call8_v0 : StableHlo.TRef sig ⟨S16x300x1, .i32⟩) (broadcastInDim S16x300x1 ![] bcast_S_S16x300x1),
    StableHlo.TRef.binary (.of main_v35 : StableHlo.TRef sig ⟨S16x300x1, .i32⟩) (.of main_call8_v0 : StableHlo.TRef sig ⟨S16x300x1, .i32⟩) (.of main_call8_v1 : StableHlo.TRef sig ⟨S16x300x1, .i1⟩) (cmpi .slt),
    StableHlo.TRef.nullary (.of main_call8_c_0 : StableHlo.TRef sig ⟨S_, .i32⟩) (constantI S_ 32 20000#32),
    StableHlo.TRef.unary (.of main_call8_c_0 : StableHlo.TRef sig ⟨S_, .i32⟩) (.of main_call8_v2 : StableHlo.TRef sig ⟨S16x300x1, .i32⟩) (broadcastInDim S16x300x1 ![] bcast_S_S16x300x1),
    StableHlo.TRef.binary (.of main_v35 : StableHlo.TRef sig ⟨S16x300x1, .i32⟩) (.of main_call8_v2 : StableHlo.TRef sig ⟨S16x300x1, .i32⟩) (.of main_call8_v3 : StableHlo.TRef sig ⟨S16x300x1, .i32⟩) addi,
    StableHlo.TRef.ternary (.of main_call8_v1 : StableHlo.TRef sig ⟨S16x300x1, .i1⟩) (.of main_call8_v3 : StableHlo.TRef sig ⟨S16x300x1, .i32⟩) (.of main_v35 : StableHlo.TRef sig ⟨S16x300x1, .i32⟩) (.of main_call8_v4 : StableHlo.TRef sig ⟨S16x300x1, .i32⟩) select,
    StableHlo.TRef.binary (.of main_v34 : StableHlo.TRef sig ⟨S16x20000x6, .f32⟩) (.of main_call8_v4 : StableHlo.TRef sig ⟨S16x300x1, .i32⟩) (.of main_v36 : StableHlo.TRef sig ⟨S16x300x6, .f32⟩) (fun x i => Host.gather gather_S16x20000x6_S16x300x1_S16x300x6_2_1_0_0_1_2_116 x i) ]

/-- Rows of boxes that were not kept put to zero. -/
abbrev post2 : List (HloOp τ sig (Elt F)) :=
  [ StableHlo.unary main_v31 main_v37 (broadcastInDim S16x300x6 ![0, 1, 2] bcast_S16x300x1_S16x300x6_0_1_2 : (⟨S16x300x1, .f32⟩ : BufTy).Contents (Elt F) → (⟨S16x300x6, .f32⟩ : BufTy).Contents (Elt F)),
    StableHlo.binary main_v36 main_v37 main_v38 (mulf : (⟨S16x300x6, .f32⟩ : BufTy).Contents (Elt F) → (⟨S16x300x6, .f32⟩ : BufTy).Contents (Elt F) → (⟨S16x300x6, .f32⟩ : BufTy).Contents (Elt F)) ]

/-- The loop's condition: the bound, and the counter compared with it. -/
abbrev condOps : List (HloOp τ sig (Elt F)) :=
  [ StableHlo.nullary main_while0c_c_11 (constantI S_ 32 300#32),
    StableHlo.binary main_v23_2 main_while0c_c_11 main_while0c_v39 (cmpi .slt) ]

/-- The stretches before the loop, those of one trip, those after. -/
abbrev preI : List (List (HloOp τ sig (Elt F))) := [pre0, pre1, pre2, pre3, pre4]
abbrev tripI : List (List (HloOp τ sig (Elt F))) :=
  [trip0, trip1, trip2, trip3, trip4, trip5, trip6, trip7, trip8, trip9, trip10, trip11]
abbrev postI : List (List (HloOp τ sig (Elt F))) := [post0, post1, post2]

end Cert.ReferenceIdeal.Body

end
-- ==== Proof.ReferenceRun.lean ====
/-
  The reference's run: stretches of host operations, a loop of 300 trips, stretches again. Every fair execution
  terminates, every buffer ends at the fold of the operations over the launch contents, every counter at zero.
-/
module

public import proofs.«01_k».proof.Proof.ReferenceOps
public import Idealize.ShloMosaic.Lib.Pipeline.Regions
public import Idealize.ShloMosaic.Lib.StableHlo.RunLoop
public import Idealize.ShloMosaic.Lib.StableHlo.RunRead
public import Idealize.ShloMosaic.Lib.Scf.ExitTest
public import Idealize.ShloMosaic.Lib.Scf.Counter

@[expose] public section

set_option maxRecDepth 16384

noncomputable section

namespace Cert.ReferenceIdeal.Body

open Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs CSeg Ticket)

variable {F : FTy → Type} [FloatOps F]

/-- A program on the host. -/
abbrev HostProg (F : FTy → Type) [FloatOps F] := Prog (TpuEff nD τ sig (Elt F) (HostLoop.Sig (Pipeline.Sig Λ₀ (Fin 0) fun p => (pcfgs (F := F) p).Adm) 1) .tc) PUnit

/-! ## The program is its stretches in order -/

/-- The program: the stretches before the loop, the loop, those after. -/
theorem main_stretches (c : Dev nD) : main (F := F) c =
    (Pipeline.chain ((preI.map fun ops => (seq ops : Prog _ PUnit)) ++ HostLoop.enter 0 :: postI.map fun ops => (seq ops : Prog _ PUnit)) : HostProg F) := by
  simp only [List.map_cons, List.map_nil, List.cons_append, List.nil_append]
  rewrite [StableHlo.chain_seq_cons, Pipeline.chain_cons, StableHlo.chain_seq_cons, Pipeline.chain_cons,
    StableHlo.chain_seq_cons, Pipeline.chain_cons, StableHlo.chain_seq_cons, Pipeline.chain_cons, StableHlo.chain_seq_cons]
  chain_rfl

/-- One trip: its stretches. -/
theorem trip_stretches : main_while0_body (F := F) = (Pipeline.chain (tripI.map fun ops => (seq ops : Prog _ PUnit)) : HostProg F) := by
  simp only [List.map_cons, List.map_nil]
  rewrite [Pipeline.chain_cons, StableHlo.chain_seq_cons, Pipeline.chain_cons, StableHlo.chain_seq_cons,
    Pipeline.chain_cons, StableHlo.chain_seq_cons, Pipeline.chain_cons, StableHlo.chain_seq_cons,
    Pipeline.chain_cons, StableHlo.chain_seq_cons, Pipeline.chain_cons, StableHlo.chain_seq_cons]
  chain_rfl

/-! ## No stretch allocates, and each touches host references only -/

theorem plain_pre : Plain (preI (F := F)) := by
  refine .cons ?_ (hf := List.forall_iff_forall_mem.mp (forall_fresh_of_map rfl)) (.cons ?_ (hf := List.forall_iff_forall_mem.mp (forall_fresh_of_map rfl))
    (.cons ?_ (hf := List.forall_iff_forall_mem.mp (forall_fresh_of_map rfl)) (.cons ?_ (hf := List.forall_iff_forall_mem.mp (forall_fresh_of_map rfl))
    (.cons ?_ (hf := List.forall_iff_forall_mem.mp (forall_fresh_of_map rfl)) .nil))))
  all_goals
    simp only [List.Forall, nullary_bufs_sub, unary_bufs_sub, binary_bufs_sub, ternary_bufs_sub, quaternary_bufs_sub, reshape_bufs_sub, nary_bufs_sub,
      TRef.nullary, TRef.unary, TRef.binary, TRef.ternary, TRef.quaternary, and_self]

theorem plain_trip : Plain (tripI (F := F)) := by
  refine .cons ?_ (hf := List.forall_iff_forall_mem.mp (forall_fresh_of_map rfl)) (.cons ?_ (hf := List.forall_iff_forall_mem.mp (forall_fresh_of_map rfl))
    (.cons ?_ (hf := List.forall_iff_forall_mem.mp (forall_fresh_of_map rfl)) (.cons ?_ (hf := List.forall_iff_forall_mem.mp (forall_fresh_of_map rfl))
    (.cons ?_ (hf := List.forall_iff_forall_mem.mp (forall_fresh_of_map rfl)) (.cons ?_ (hf := List.forall_iff_forall_mem.mp (forall_fresh_of_map rfl))
    (.cons ?_ (hf := List.forall_iff_forall_mem.mp (forall_fresh_of_map rfl)) (.cons ?_ (hf := List.forall_iff_forall_mem.mp (forall_fresh_of_map rfl))
    (.cons ?_ (hf := List.forall_iff_forall_mem.mp (forall_fresh_of_map rfl)) (.cons ?_ (hf := List.forall_iff_forall_mem.mp (forall_fresh_of_map rfl))
    (.cons ?_ (hf := List.forall_iff_forall_mem.mp (forall_fresh_of_map rfl)) (.cons ?_ (hf := List.forall_iff_forall_mem.mp (forall_fresh_of_map rfl)) .nil)))))))))))
  all_goals
    simp only [List.Forall, nullary_bufs_sub, unary_bufs_sub, binary_bufs_sub, ternary_bufs_sub, quaternary_bufs_sub, reshape_bufs_sub, nary_bufs_sub,
      binaryIndexed_bufs_sub, TRef.nullary, TRef.unary, TRef.binary, TRef.ternary, TRef.quaternary, TRef.reshape, TRef.binaryIndexed, and_self]

theorem plain_post : Plain (postI (F := F)) := by
  refine .cons ?_ (hf := List.forall_iff_forall_mem.mp (forall_fresh_of_map rfl)) (.cons ?_ (hf := List.forall_iff_forall_mem.mp (forall_fresh_of_map rfl))
    (.cons ?_ (hf := List.forall_iff_forall_mem.mp (forall_fresh_of_map rfl)) .nil))
  all_goals
    simp only [List.Forall, nullary_bufs_sub, unary_bufs_sub, binary_bufs_sub, ternary_bufs_sub, quaternary_bufs_sub, reshape_bufs_sub, nary_bufs_sub,
      TRef.nullary, TRef.unary, TRef.binary, TRef.ternary, TRef.quaternary, and_self]

/-! ## What the stretches write -/

/-- What the operations before the loop write. -/
abbrev preW : List (Ref sig .tc) :=
  [main_v0, main_v1, main_v2, main_cst, main_v3, main_call0_v0, main_call0_cst, main_call0_c, main_call0_v1_0,
   main_v4, main_v5, main_cst_0, main_v6, main_v7, main_v8, main_v9, main_cst_1, main_v10, main_v11, main_v12,
   main_v13, main_v14, main_cst_2, main_v15, main_v16, main_v17, main_v18, main_v19, main_cst_3, main_call1_v0,
   main_call1_v1, main_v20, main_v21, main_c, main_v22, main_c_4, main_v23_0, main_v23_1, main_v23_2, main_v23_3,
   main_v23_4]

/-- What the operations after the loop write. -/
abbrev postW : List (Ref sig .tc) :=
  [main_v24, main_c_5, main_v25, main_v26, main_c_6, main_v27, main_v28, main_v29, main_v30, main_v31, main_v32,
   main_v33, main_v34, main_v35, main_call8_c, main_call8_v0, main_call8_v1, main_call8_c_0, main_call8_v2,
   main_call8_v3, main_call8_v4, main_v36, main_v37, main_v38]

/-- What a trip's operations write, the last stretch left out. -/
abbrev headW : List (Ref sig .tc) :=
  [main_while0b_call2_v0, main_while0b_call2_cst, main_while0b_call2_c, main_while0b_call2_v1_0, main_while0b_v39,
   main_while0b_v40, main_while0b_call3_c, main_while0b_call3_v0, main_while0b_call3_v1, main_while0b_call3_c_0,
   main_while0b_call3_v2, main_while0b_call3_v3, main_while0b_call3_v4, main_while0b_call3_v5, main_while0b_v41,
   main_while0b_v42, main_while0b_cst_11, main_while0b_v43, main_while0b_v44, main_while0b_c_12,
   main_while0b_call4_v0, main_while0b_v45, main_while0b_v46, main_while0b_v47, main_while0b_call5_c,
   main_while0b_call5_v0, main_while0b_call5_v1, main_while0b_call5_c_0, main_while0b_call5_v2,
   main_while0b_call5_v3, main_while0b_call5_v4, main_while0b_v48, main_while0b_v49, main_while0b_v50,
   main_while0b_v51, main_while0b_v52, main_while0b_v53, main_while0b_v54, main_while0b_v55, main_while0b_v56,
   main_while0b_v57, main_while0b_cst_13, main_while0b_v58, main_while0b_v59, main_while0b_v60, main_while0b_v61,
   main_while0b_v62, main_while0b_v63, main_while0b_v64, main_while0b_v65, main_while0b_v66, main_while0b_v67,
   main_while0b_v68, main_while0b_v69, main_while0b_cst_14, main_while0b_v70, main_while0b_v71, main_while0b_v72,
   main_while0b_v73, main_while0b_v74, main_while0b_v75, main_while0b_v76, main_while0b_cst_15, main_while0b_v77,
   main_while0b_v78, main_while0b_v79, main_while0b_v80, main_while0b_v81, main_while0b_v82, main_while0b_v83,
   main_while0b_v84, main_while0b_cst_16, main_while0b_v85, main_while0b_v86, main_while0b_v87, main_while0b_v88,
   main_while0b_v89, main_while0b_v90, main_while0b_v91, main_while0b_cst_17, main_while0b_v92, main_while0b_v93,
   main_while0b_v94, main_while0b_v95, main_while0b_v96, main_while0b_v97, main_while0b_cst_18, main_while0b_v98,
   main_while0b_v99, main_while0b_v100, main_while0b_cst_19, main_while0b_v101, main_while0b_v102,
   main_while0b_cst_20, main_while0b_call6_v0, main_while0b_call6_v1, main_while0b_v103, main_while0b_c_21,
   main_while0b_v104, main_while0b_v105, main_while0b_c_22, main_while0b_v106, main_while0b_v107, main_while0b_v108,
   main_while0b_c_23, main_while0b_v109, main_while0b_v110, main_while0b_c_24, main_while0b_v111, main_while0b_v112,
   main_while0b_v113, main_while0b_v114, main_while0b_v115, main_while0b_v116, main_while0b_cst_25,
   main_while0b_v117, main_while0b_v118, main_while0b_call7_v0, main_while0b_call7_c, main_while0b_v119]

/-- A trip's stretches but the last. -/
abbrev headI : List (List (HloOp τ sig (Elt F))) := [trip0, trip1, trip2, trip3, trip4, trip5, trip6, trip7, trip8, trip9, trip10]

/-- A buffer that no operation before the loop writes is as at the launch when the loop starts. -/
theorem pre_keep (V : Valuation τ sig (Elt F)) (r : Ref sig .tc) (h : r ∉ preW) :
    afterL preI V (Proc.devRef .tc r) = V (Proc.devRef .tc r) := by
  rw [afterL_eq_after_flatten]; exact after_of_writes_sub _ V (forall_writes_sub_of_map (W := preW) rfl) h

/-- A buffer that no operation after the loop writes is at the end as when the loop ends. -/
theorem post_keep (V : Valuation τ sig (Elt F)) (r : Ref sig .tc) (h : r ∉ postW) :
    afterL postI V (Proc.devRef .tc r) = V (Proc.devRef .tc r) := by
  rw [afterL_eq_after_flatten]; exact after_of_writes_sub _ V (forall_writes_sub_of_map (W := postW) rfl) h

/-- A buffer that the first eleven stretches of a trip do not write goes through them. -/
theorem head_keep (V : Valuation τ sig (Elt F)) (r : Ref sig .tc) (h : r ∉ headW) :
    afterL headI V (Proc.devRef .tc r) = V (Proc.devRef .tc r) := by
  rw [afterL_eq_after_flatten]; exact after_of_writes_sub _ V (forall_writes_sub_of_map (W := headW) rfl) h

/-- A buffer that the last stretch of a trip does not write goes through it. -/
theorem last_keep (V : Valuation τ sig (Elt F)) (r : Ref sig .tc)
    (h : r ∉ [main_while0b_c_26, main_while0b_v120, main_v23_2, main_v23_3, main_v23_4]) :
    after trip11 V (Proc.devRef .tc r) = V (Proc.devRef .tc r) :=
  after_of_writes_sub _ V (forall_writes_sub_of_map rfl) h

/-- A buffer that the condition does not write goes through it. -/
theorem cond_keep (V : Valuation τ sig (Elt F)) (r : Ref sig .tc) (h : r ∉ [main_while0c_c_11, main_while0c_v39]) :
    after condOps V (Proc.devRef .tc r) = V (Proc.devRef .tc r) :=
  after_of_writes_sub _ V (forall_writes_sub_of_map rfl) h

/-- A trip is its first eleven stretches and then the last. -/
theorem trip_cut (V : Valuation τ sig (Elt F)) : afterL tripI V = after trip11 (afterL headI V) := rfl

/-- The last stretch adds one to the counter. -/
theorem last_counter (V : Valuation τ sig (Elt F)) :
    after trip11 V (Proc.devRef .tc main_v23_2) = addi (V (Proc.devRef .tc main_v23_2)) (constantI S_ 32 1#32) := by
  after_results
  rfl

variable (m : (ℓ : Loc nD τ sig) → Buf (Elt F) ℓ) (ρ : Dev nD → PrngReg)

/-- The buffers when the condition runs for the `k`-th time, counted from zero. -/
abbrev atK (k : ℕ) (c : Dev nD) : Valuation τ sig (Elt F) := atTrip condOps tripI (entryContents preI m) k c

/-- The counter is zero when the loop starts. -/
theorem entry_counter (c : Dev nD) : entryContents preI m c (Proc.devRef .tc main_v23_2) = fun _ => (0#32 : BitVec 32) := by
  simp only [entryContents, afterL_cons, afterL_nil]
  after_reads_simp
  rfl

/-- The counter counts the trips. -/
theorem atK_counter (c : Dev nD) : ∀ k, atK m k c (Proc.devRef .tc main_v23_2) = fun _ => Scf.iv 0#32 1#32 k
  | 0 => by rw [show atK m 0 c = entryContents preI m c from rfl, entry_counter, Scf.iv_zero]
  | k + 1 => by
    rw [show atK m (k + 1) c = afterL tripI (after condOps (atK m k c)) from rfl, trip_cut, last_counter,
      head_keep _ _ (by decide +kernel), cond_keep _ _ (by decide), atK_counter c k, Scf.iv_succ]
    rfl

set_option backward.isDefEq.respectTransparency.types false in
/-- The condition lets 300 trips through. -/
theorem cond_spec : CondSpec (pcfgs (F := F)) defs₀ loops (main_while0_cond (F := F)) condOps tripI (entryContents preI m) 300 := by
  intro k hk c bd
  have hctr := atK_counter m c k
  unfold main_while0_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]
    · iexact Hb
    · iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]
    · iexact Hb
    · iexact Hh
  iintro ⟨Hb, Hh⟩
  rw [HostLoop.elt_apply, wp_ret]; imodintro
  isplitr
  · ipureintro
    show Iff (IntOp.cmpi .slt (HloOp.result _ (atK m k c) main_v23_2 HostLoop.idx0)
        (HloOp.result _ (atK m k c) main_while0c_c_11 HostLoop.idx0) = 1#1) (k < 300)
    rw [nullary_result_ne _ _ _ _ (by decide), nullary_result, hctr]
    exact Scf.cmpi_slt_iv_ub_iff (lb := 0#32) (ub := 300#32) (st := 1#32) (by decide) (show k ≤ Scf.trips 0#32 300#32 1#32 from hk)
  isplitl [Hb]
  · iexact Hb
  rw [after_cons, after_cons, after_nil]; iexact Hh

/-! ## The run -/

local notation "𝕄" => MT nD τ sig Unit (Elt F) ℕ (Option PUnit) ℕ

/-- No kernel, so nothing admitted, no ticket, no level. -/
abbrev noAdm : (p : Fin 0) → (pcfgs (F := F) p).Adm := fun p => p.elim0
abbrev noTicket : Fin 0 → Ticket (Ix := Unit) (Name := ℕ) (U := Option PUnit) (Lvl := ℕ) (nD := nD) (τ := τ) (pcfgs (F := F)) noAdm := fun j => j.elim0
abbrev noL : GSem nD τ sig → Finset Unit := fun _ => ∅
abbrev noLv : GSem nD τ sig → Unit → ℕ := fun _ _ => 0

/-- Beside the buffers: that no copy is under way. -/
abbrev Rest (c : Dev nD) : sProp 𝕄 := iprop(∃ W, owes (c : Thread nD τ) (0 : CellTallies nD τ sig Unit) W)

/-- The condition, with what stands beside the buffers. -/
theorem cond_loop : LoopCond (pcfgs (F := F)) defs₀ Variants.none loops (Rest (F := F)) (main_while0_cond (F := F)) condOps tripI (entryContents preI m) 300 := by
  intro k hk c bd
  refine (show iprop(boundary (c : Thread nD τ) ∗ held (c : Thread nD τ) (ucRefs τ sig) (atK m k c) ∗ Rest c)
      ⊢ (iprop(iprop(boundary (c : Thread nD τ) ∗ held (c : Thread nD τ) (ucRefs τ sig) (atK m k c)) ∗ Rest c) : sProp 𝕄) from ?_).trans
    (((sep_mono_left (cond_spec m k hk c bd)).trans (wp_frame_r _ _ _)).trans (wp_mono _ _ _ fun v => ?_))
  · iintro ⟨Hb, Hh, HR⟩
    isplitl [Hb Hh]
    · isplitl [Hb] <;> iassumption
    · iexact HR
  · iintro ⟨⟨%hv, Hb, Hh⟩, HR⟩
    isplitr
    · ipureintro; exact hv
    isplitl [Hb]
    · iexact Hb
    isplitl [Hh] <;> iassumption

/-- The run's segments. -/
def segs : List (CSeg (pcfgs (F := F)) noAdm defs₀ Variants.none noL noLv loops noTicket) :=
  segsOf _ _ _ _ _ _ _ _ (Rest (F := F)) preI plain_pre (launchContents m)
    ++ loopSeg _ _ _ _ _ _ _ _ 0 main_while0_cond main_while0_body rfl condOps tripI plain_trip trip_stretches 300 (entryContents preI m) Rest (cond_loop m)
      :: segsOf _ _ _ _ _ _ _ _ (Rest (F := F)) postI plain_post (fun c => after condOps (atK m 300 c))

theorem segs_prog : (segs m).map CSeg.prog
    = (preI.map fun ops => (seq ops : HostProg F)) ++ HostLoop.enter 0 :: postI.map fun ops => (seq ops : HostProg F) := by
  unfold segs
  rw [List.map_append, List.map_cons, segsOf_prog, segsOf_prog]
  rfl

/-- Every buffer at the end. -/
abbrev final (c : Dev nD) : Valuation τ sig (Elt F) := finalContents condOps preI tripI postI 300 m c

theorem segs_chain : CSeg.Chains (fun c => iprop(held (c : Thread nD τ) (ucRefs τ sig) (launchContents m c) ∗ Rest (F := F) c)) (segs m)
    (fun c => iprop(iprop(held (c : Thread nD τ) (ucRefs τ sig) (final m c)) ∗ ∃ W, owes (c : Thread nD τ) (0 : CellTallies nD τ sig Unit) W)) := by
  unfold segs
  exact CSeg.Chains.append (segsOf_chains _ _ _ _ _ _ _ _ Rest preI plain_pre _)
    ⟨fun _ => .rfl, segsOf_chains _ _ _ _ _ _ _ _ Rest postI plain_post _⟩

/-- The host has no semaphore of its own. -/
theorem all_scoped : ∀ sm : SemLoc sig, sm.isScoped .tc = true := by decide

/-- No call, so no staging cell. -/
theorem no_cells : Function.Injective (Pipeline.cellOf (nD := nD) (τ := τ) (Pipeline.pin (pcfgs (F := F)) noAdm)) := fun k => k.1.elim0

set_option backward.isDefEq.respectTransparency.types false in
/-- The reference's run: each buffer at the fold, each counter at zero. -/
theorem run : θ_run defs (onTc (τ := τ) (main (F := F))) ⟨m, fun _ => 0, ρ⟩ (fun r =>
    (∀ (c : Dev nD) (b : Ref sig .tc), (Proc.devRef .tc b : DevRef τ sig).isScoped = false →
      r.2.mem ((c.tc : Thread nD τ).loc b) = final m c (Proc.devRef .tc b)) ∧ r.2.sem = fun _ => 0) :=
  Pipeline.θ_run_regions_loop_kit_sems (Ix := Unit) (Name := ℕ) (U := Option PUnit) (Lvl := ℕ) (J := Fin 0) (P := Fin 0) (Val := Elt F)
    pcfgs noAdm no_cells defs₀ Variants.none noL noLv loops noTicket m ρ main (segs m)
    (fun c Q => by
      rw [main_stretches c, ← segs_prog m]
      exact .rfl)
    (CSeg.pairwise_disjoint_of_T_empty _ fun s _ => Finset.eq_empty_of_isEmpty s.T)
    (O₀ := 0) (hL := fun _ _ => rfl) (G := fun _ => iprop(emp)) (u₀ := 1)
    (hu₀ := by
      iintro -
      imodintro
      isplitl []
      · rw [Finset.univ_eq_empty, BI.bigSep_empty]; iempintro
      · iapply (show (BI.emp : sProp 𝕄) ⊢ bigSep Finset.univ (fun _ : Dev nD => (BI.emp : sProp 𝕄)) from by rw [BI.bigSep_emp_const])
        iempintro)
    (T₀ := fun c => iprop(held (c : Thread nD τ) (ucRefs τ sig) (launchContents m c) ∗ Rest c))
    (Tₙ := fun c => iprop(held (c : Thread nD τ) (ucRefs τ sig) (final m c)))
    (hch := segs_chain m)
    (hinit := by
      refine Pipeline.initEach noL noLv fun c => ?_
      rw [show unscopedBufs c (fun b => m ((c : Thread nD τ).loc b)) = held (c : Thread nD τ) (ucRefs τ sig) (launchContents m c)
        from Pipeline.unscopedBufs_held c (launchContents m c)]
      iintro ⟨⟨Hh, -, HO, -, -, -⟩, -⟩
      imodintro
      isplitl [Hh]
      · iexact Hh
      iexists ∅; iexact HO)
    (QY := fun c s => ∀ b ∈ ucRefs τ sig, s.mem ((c : Dev nD), b) = final m c b)
    (hfin := fun c s' => by
      unfold held
      iintro ⟨Hh, HSI⟩
      ihave Hr := (pointsTo_read_all (ucRefs τ sig) (fun b => ((c : Dev nD), b)) (fun b => final m c b) s') $$ [Hh HSI]
      · isplitl [Hh] <;> iassumption
      icases Hr with ⟨%h, HSI⟩
      imodintro
      isplitr
      · ipureintro; exact h
      iexact HSI)
    (hQ := fun _ h hz => ⟨fun c b hb => h c _ (devRef_mem_ucRefs b hb), funext fun g => hz g (.inr (all_scoped g.2))⟩)

/-- A buffer that no trip writes stays as it was when the loop started. -/
theorem atK_keep (r : Ref sig .tc) (h₁ : r ∉ headW) (h₂ : r ∉ [main_while0b_c_26, main_while0b_v120, main_v23_2, main_v23_3, main_v23_4])
    (h₃ : r ∉ [main_while0c_c_11, main_while0c_v39]) (c : Dev nD) :
    ∀ k, atK m k c (Proc.devRef .tc r) = entryContents preI m c (Proc.devRef .tc r)
  | 0 => rfl
  | k + 1 => by
    rw [show atK m (k + 1) c = afterL tripI (after condOps (atK m k c)) from rfl, trip_cut, last_keep _ _ h₂, head_keep _ _ h₁,
      cond_keep _ _ h₃, atK_keep r h₁ h₂ h₃ c k]

/-- A buffer that nothing writes ends as launched. -/
theorem final_keep (r : Ref sig .tc) (h₀ : r ∉ preW) (h₁ : r ∉ headW) (h₂ : r ∉ [main_while0b_c_26, main_while0b_v120, main_v23_2, main_v23_3, main_v23_4])
    (h₃ : r ∉ [main_while0c_c_11, main_while0c_v39]) (h₄ : r ∉ postW) (c : Dev nD) :
    final m c (Proc.devRef .tc r) = m ((c.tc : Thread nD τ).loc r) := by
  rw [show final m c = afterL postI (after condOps (atK m 300 c)) from rfl, post_keep _ _ h₄, cond_keep _ _ h₃, atK_keep m r h₁ h₂ h₃,
    entryContents, pre_keep _ _ h₀]

/-- The reference terminates, its arguments as launched, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c =>
    ⟨(h.1 c main_arg0 (by decide)).trans (final_keep m main_arg0 (by decide +kernel) (by decide +kernel) (by decide) (by decide) (by decide +kernel) c),
     (h.1 c main_arg1 (by decide)).trans (final_keep m main_arg1 (by decide +kernel) (by decide +kernel) (by decide) (by decide) (by decide +kernel) c)⟩, h.2⟩)
    (run m ρ)

end Cert.ReferenceIdeal.Body

end
-- ==== Proof.ReferencePick.lean ====
/-
  The reference's index operations read at an index: where the largest entry stands first, the entry taken at an index, the
  entry set at an index, the row stored in a table.
-/
module

public import proofs.«01_k».proof.Proof.ReferenceOps
public import proofs.«01_k».proof.Proof.Greedy
public import Idealize.ShloMosaic.Lib.Pointwise
public import Idealize.ShloMosaic.PureOps.Reduce
public import Idealize.ShloMosaic.Lib.Routing.OpsSet
public import Idealize.ShloMosaic.Lib.Routing.OpsPair

@[expose] public section

set_option maxRecDepth 16384

noncomputable section

namespace Cert.ReferenceIdeal.Body

open Cert.ReferenceIdeal.Gen Cert.Greedy

open Idealize.ShloMosaic

/-! ## Where the largest entry stands first -/

theorem slt_ofNat (a b : ℕ) (ha : a < 2147483648) (hb : b < 2147483648) :
    (BitVec.ofNat 32 a).slt (BitVec.ofNat 32 b) = decide (a < b) := by
  rw [BitVec.slt_eq_decide, BitVec.toInt_eq_toNat_of_lt, BitVec.toInt_eq_toNat_of_lt]
  · simp only [BitVec.toNat_ofNat]
    rw [Nat.mod_eq_of_lt (by omega), Nat.mod_eq_of_lt (by omega)]
    simp
  · simp only [BitVec.toNat_ofNat]; omega
  · simp only [BitVec.toNat_ofNat]; omega

/-- One step of the search: the greater value, the lesser index on a tie. -/
theorem step_eq (a b : EReal) (p k : ℕ) (hp : p < 2147483648) (hk : k < 2147483648) :
    reducer_argmax_f32_i32 (F := Ideal) (a, BitVec.ofNat 32 p) (b, BitVec.ofNat 32 k)
      = if b < a ∨ (a = b ∧ p < k) then (a, BitVec.ofNat 32 p) else (b, BitVec.ofNat 32 k) := by
  unfold reducer_argmax_f32_i32
  simp only [Ideal.cmpf_def, Ideal.cmp, IntOp.cmpi, slt_ofNat p k hp hk, IntOp.ori, IntOp.andi, Scalar.select]
  rcases lt_trichotomy b a with h | h | h
  · simp [h, h.ne']
  · subst h
    by_cases hpk : p < k <;> simp [hpk]
  · simp [h.not_gt, h.ne]

/-- A fold of the search over pairs of entry and place, the top's among them. -/
theorem search {n : ℕ} (hn : n ≤ 2147483648) (s : Fin n → EReal) (i : Fin n) (hi : IsTop s i) (l : List (EReal × BitVec 32))
    (hl : ∀ p ∈ l, ∃ k : Fin n, p = (s k, BitVec.ofNat 32 k.val)) (hm : (s i, BitVec.ofNat 32 i.val) ∈ l) :
    l.foldl (reducer_argmax_f32_i32 (F := Ideal)) (⊥, 0#32) = (s i, BitVec.ofNat 32 i.val) := by
  have key : ∀ (l : List (EReal × BitVec 32)) (_ : ∀ p ∈ l, ∃ k : Fin n, p = (s k, BitVec.ofNat 32 k.val)) (a : EReal) (p : ℕ),
      p < 2147483648 → a ≤ s i → (a = s i → i.val ≤ p) → ((s i, BitVec.ofNat 32 i.val) ∈ l ∨ (a = s i ∧ p = i.val)) →
      l.foldl (reducer_argmax_f32_i32 (F := Ideal)) (a, BitVec.ofNat 32 p) = (s i, BitVec.ofNat 32 i.val) := by
    intro l
    induction l with
    | nil =>
      rintro - a p - - - (h | ⟨rfl, rfl⟩)
      · cases h
      · rfl
    | cons q l ih =>
      intro hl a p hp ha hap hor
      obtain ⟨k, rfl⟩ := hl q (List.mem_cons_self ..)
      have hk : k.val < 2147483648 := lt_of_lt_of_le k.isLt hn
      rw [List.foldl_cons, step_eq a (s k) p k.val hp hk]
      have hl' : ∀ p ∈ l, ∃ k : Fin n, p = (s k, BitVec.ofNat 32 k.val) := fun p hp => hl p (List.mem_cons_of_mem _ hp)
      split
      · rename_i hc
        refine ih hl' a p hp ha hap ?_
        rcases hor with h | h
        · rcases List.mem_cons.1 h with h | h
          · have e1 : s i = s k := congrArg Prod.fst h
            have e2 : i.val = k.val := by
              have := congrArg (fun z => z.2.toNat) h
              simp only [BitVec.toNat_ofNat] at this
              have := i.isLt
              omega
            rcases hc with hc | ⟨hc, hpk⟩
            · exact absurd ha (not_le.2 (e1 ▸ hc))
            · exact absurd (hap (hc.trans e1.symm)) (by omega)
          · exact .inl h
        · exact .inr h
      · rename_i hc
        refine ih hl' (s k) k.val hk (hi.1 k) (fun h => hi.2 k h) ?_
        rcases hor with h | ⟨h, h'⟩
        · rcases List.mem_cons.1 h with h | h
          · have e1 : s i = s k := congrArg Prod.fst h
            have e2 : i.val = k.val := by
              have := congrArg (fun z => z.2.toNat) h
              simp only [BitVec.toNat_ofNat] at this
              have := i.isLt
              omega
            exact .inr ⟨e1.symm, e2.symm⟩
          · exact .inl h
        · subst h'
          have h1 : ¬ s k < a := fun h' => hc (.inl h')
          have h2 : s k = s i := le_antisymm (hi.1 k) (h ▸ not_lt.1 h1)
          have h3 := hi.2 k h2
          have h4 : ¬ i.val < k.val := fun h' => hc (.inr ⟨h.trans h2.symm, h'⟩)
          exact .inr ⟨h2, by have : i.val ≤ k.val := h3; omega⟩
  refine key l hl ⊥ 0 (by norm_num) bot_le (fun h => ?_) (.inl hm)
  have hn0 : 0 < n := lt_of_le_of_lt (Nat.zero_le _) i.isLt
  exact hi.2 ⟨0, hn0⟩ (le_antisymm (hi.1 _) (h ▸ bot_le))

theorem class_at (x : Vec Ideal S16x20000x80 .f32) (b : Fin 16) (j : Fin 20000) (i : Fin 80) (hi : IsTop (fun c : Fin 80 => x (ix3 b j c)) i) :
    (Host.argReduce (reducer_argmax_f32_i32 (F := Ideal)) x (iotaInDim S16x20000x80 32 2) (constant S_ .f32 0xFF800000#32) (constantI S_ 32 0#32)
      reducesTo_S16x20000x80_S16x20000_d2 h_S_ (ix2 b j)).2 = BitVec.ofNat 32 i.val := by
  rw [Ideal.argReduce_eq_reduce2, Host.reduce2_eq_foldl_fiber]
  show Prod.snd (List.foldl _ (Ideal.ofBits .f32 0xFF800000#32, 0#32) _) = _
  rw [negInf, search (by norm_num) (fun c : Fin 80 => x (ix3 b j c)) i hi]
  · intro p hp
    simp only [Host.argReduceFiber, List.mem_map, List.mem_filter, decide_eq_true_eq] at hp
    obtain ⟨n, ⟨-, hn⟩, rfl⟩ := hp
    generalize S16x20000x80.rowMajor.symm n = e at hn ⊢
    have h0 : e 0 = b := congrFun hn 0
    have h1 : e 1 = j := congrFun hn 1
    refine ⟨e 2, ?_⟩
    have he : e = ix3 b j (e 2) := by
      rw [← h0, ← h1]
      exact eq_ix3 (n0 := 16) (n1 := 20000) (n2 := 80) e
    rw [he]; rfl
  · simp only [Host.argReduceFiber, List.mem_map, List.mem_filter, decide_eq_true_eq]
    refine ⟨S16x20000x80.rowMajor (ix3 b j i), ⟨List.mem_finRange _, ?_⟩, ?_⟩
    · rw [Equiv.symm_apply_apply]
      funext a
      obtain ⟨a, ha⟩ := a
      change a < 2 at ha
      interval_cases a <;> rfl
    · rw [Equiv.symm_apply_apply]; rfl

theorem top_at (x : Vec Ideal S16x20000 .f32) (b : Fin 16) (i : Fin 20000) (hi : IsTop (fun c : Fin 20000 => x (ix2 b c)) i) :
    (Host.argReduce (reducer_argmax_f32_i32 (F := Ideal)) x (iotaInDim S16x20000 32 1) (constant S_ .f32 0xFF800000#32) (constantI S_ 32 0#32)
      reducesTo_S16x20000_S16_d1 h_S_ (ix1 b)).2 = BitVec.ofNat 32 i.val := by
  rw [Ideal.argReduce_eq_reduce2, Host.reduce2_eq_foldl_fiber]
  show Prod.snd (List.foldl _ (Ideal.ofBits .f32 0xFF800000#32, 0#32) _) = _
  rw [negInf, search (by norm_num) (fun c : Fin 20000 => x (ix2 b c)) i hi]
  · intro p hp
    simp only [Host.argReduceFiber, List.mem_map, List.mem_filter, decide_eq_true_eq] at hp
    obtain ⟨n, ⟨-, hn⟩, rfl⟩ := hp
    generalize S16x20000.rowMajor.symm n = e at hn ⊢
    have h0 : e 0 = b := congrFun hn 0
    refine ⟨e 1, ?_⟩
    have he : e = ix2 b (e 1) := by
      rw [← h0]
      exact eq_ix2 (n0 := 16) (n1 := 20000) e
    rw [he]; rfl
  · simp only [Host.argReduceFiber, List.mem_map, List.mem_filter, decide_eq_true_eq]
    refine ⟨S16x20000.rowMajor (ix2 b i), ⟨List.mem_finRange _, ?_⟩, ?_⟩
    · rw [Equiv.symm_apply_apply]
      funext a
      obtain ⟨a, ha⟩ := a
      change a < 1 at ha
      interval_cases a <;> rfl
    · rw [Equiv.symm_apply_apply]; rfl

/-! ## The entry taken at an index, and the entry set at an index -/

/-! ## An entry taken at an index -/

theorem clamp_eq (i : Fin 20000) : min (BitVec.ofNat 32 i.val).toInt.toNat (20000 - 1) = i.val := by
  have := i.isLt
  rw [BitVec.toInt_eq_toNat_of_lt]
  · simp only [BitVec.toNat_ofNat, Int.toNat_natCast]
    rw [Nat.mod_eq_of_lt (by omega)]
    omega
  · simp only [BitVec.toNat_ofNat]; omega

theorem take_score (x : Vec Ideal S16x20000 .f32) (y : IVec S16x1x1 32) (b : Fin 16) (i : Fin 20000) (hy : y (ix3 b 0 0) = BitVec.ofNat 32 i.val) :
    Host.gather gather_S16x20000_S16x1x1_S16x1_n_1_0_0_1_2_11 x y (ix2 b 0) = x (ix2 b i) := by
  show x _ = x _
  congr 1
  funext a
  obtain ⟨a, ha⟩ := a
  change a < 2 at ha
  apply Fin.ext
  interval_cases a
  · show GatherDims.start gather_S16x20000_S16x1x1_S16x1_n_1_0_0_1_2_11 _ _ (0 : Fin 2) + GatherDims.batchCoord gather_S16x20000_S16x1x1_S16x1_n_1_0_0_1_2_11 _ (0 : Fin 2) + GatherDims.offCoord gather_S16x20000_S16x1x1_S16x1_n_1_0_0_1_2_11 _ (0 : Fin 2) = b.val
    rw [GatherDims.start_batching _ _ _ _ (by decide), GatherDims.offCoord_eq_zero _ _ _ (by decide)]
    simp only [Nat.zero_add, Nat.add_zero]
    rfl
  · show GatherDims.start gather_S16x20000_S16x1x1_S16x1_n_1_0_0_1_2_11 _ _ (1 : Fin 2) + GatherDims.batchCoord gather_S16x20000_S16x1x1_S16x1_n_1_0_0_1_2_11 _ (1 : Fin 2) + GatherDims.offCoord gather_S16x20000_S16x1x1_S16x1_n_1_0_0_1_2_11 _ (1 : Fin 2) = i.val
    rw [GatherDims.batchCoord_eq_zero _ _ _ (by decide), GatherDims.offCoord_eq_zero _ _ _ (by decide)]
    unfold GatherDims.start
    rw [dif_pos (by decide)]
    refine Eq.trans ?_ (clamp_eq i)
    rw [← hy]
    simp only [Nat.add_zero]
    congr 3
    congr 1
    funext a
    obtain ⟨a, ha⟩ := a
    change a < 3 at ha
    interval_cases a <;> rfl

theorem take_box (x : Vec Ideal S16x20000x4 .f32) (y : IVec S16x1x1 32) (b : Fin 16) (i : Fin 20000) (l : Fin 4) (hy : y (ix3 b 0 0) = BitVec.ofNat 32 i.val) :
    Host.gather gather_S16x20000x4_S16x1x1_S16x1x4_2_1_0_0_1_2_114 x y (ix3 b 0 l) = x (ix3 b i l) := by
  show x _ = x _
  congr 1
  funext a
  obtain ⟨a, ha⟩ := a
  change a < 3 at ha
  apply Fin.ext
  interval_cases a
  · show GatherDims.start gather_S16x20000x4_S16x1x1_S16x1x4_2_1_0_0_1_2_114 _ _ (0 : Fin 3) + GatherDims.batchCoord gather_S16x20000x4_S16x1x1_S16x1x4_2_1_0_0_1_2_114 _ (0 : Fin 3) + GatherDims.offCoord gather_S16x20000x4_S16x1x1_S16x1x4_2_1_0_0_1_2_114 _ (0 : Fin 3) = b.val
    rw [GatherDims.start_batching _ _ _ _ (by decide), GatherDims.offCoord_eq_zero _ _ _ (by decide)]
    simp only [Nat.zero_add, Nat.add_zero]
    rfl
  · show GatherDims.start gather_S16x20000x4_S16x1x1_S16x1x4_2_1_0_0_1_2_114 _ _ (1 : Fin 3) + GatherDims.batchCoord gather_S16x20000x4_S16x1x1_S16x1x4_2_1_0_0_1_2_114 _ (1 : Fin 3) + GatherDims.offCoord gather_S16x20000x4_S16x1x1_S16x1x4_2_1_0_0_1_2_114 _ (1 : Fin 3) = i.val
    rw [GatherDims.batchCoord_eq_zero _ _ _ (by decide), GatherDims.offCoord_eq_zero _ _ _ (by decide)]
    unfold GatherDims.start
    rw [dif_pos (by decide)]
    refine Eq.trans ?_ (clamp_eq i)
    rw [← hy]
    simp only [Nat.add_zero]
    congr 3
    congr 1
    funext a
    obtain ⟨a, ha⟩ := a
    change a < 3 at ha
    interval_cases a <;> rfl
  · show GatherDims.start gather_S16x20000x4_S16x1x1_S16x1x4_2_1_0_0_1_2_114 _ _ (2 : Fin 3) + GatherDims.batchCoord gather_S16x20000x4_S16x1x1_S16x1x4_2_1_0_0_1_2_114 _ (2 : Fin 3) + GatherDims.offCoord gather_S16x20000x4_S16x1x1_S16x1x4_2_1_0_0_1_2_114 _ (2 : Fin 3) = l.val
    rw [GatherDims.batchCoord_eq_zero _ _ _ (by decide)]
    unfold GatherDims.start
    rw [dif_neg (by decide)]
    simp only [Nat.zero_add, Nat.add_zero]
    rfl

theorem take_row (x : Vec Ideal S16x20000x6 .f32) (y : IVec S16x300x1 32) (b : Fin 16) (k : Fin 300) (i : Fin 20000) (l : Fin 6) (hy : y (ix3 b k 0) = BitVec.ofNat 32 i.val) :
    Host.gather gather_S16x20000x6_S16x300x1_S16x300x6_2_1_0_0_1_2_116 x y (ix3 b k l) = x (ix3 b i l) := by
  show x _ = x _
  congr 1
  funext a
  obtain ⟨a, ha⟩ := a
  change a < 3 at ha
  apply Fin.ext
  interval_cases a
  · show GatherDims.start gather_S16x20000x6_S16x300x1_S16x300x6_2_1_0_0_1_2_116 _ _ (0 : Fin 3) + GatherDims.batchCoord gather_S16x20000x6_S16x300x1_S16x300x6_2_1_0_0_1_2_116 _ (0 : Fin 3) + GatherDims.offCoord gather_S16x20000x6_S16x300x1_S16x300x6_2_1_0_0_1_2_116 _ (0 : Fin 3) = b.val
    rw [GatherDims.start_batching _ _ _ _ (by decide), GatherDims.offCoord_eq_zero _ _ _ (by decide)]
    simp only [Nat.zero_add, Nat.add_zero]
    rfl
  · show GatherDims.start gather_S16x20000x6_S16x300x1_S16x300x6_2_1_0_0_1_2_116 _ _ (1 : Fin 3) + GatherDims.batchCoord gather_S16x20000x6_S16x300x1_S16x300x6_2_1_0_0_1_2_116 _ (1 : Fin 3) + GatherDims.offCoord gather_S16x20000x6_S16x300x1_S16x300x6_2_1_0_0_1_2_116 _ (1 : Fin 3) = i.val
    rw [GatherDims.batchCoord_eq_zero _ _ _ (by decide), GatherDims.offCoord_eq_zero _ _ _ (by decide)]
    unfold GatherDims.start
    rw [dif_pos (by decide)]
    refine Eq.trans ?_ (clamp_eq i)
    rw [← hy]
    simp only [Nat.add_zero]
    congr 3
    congr 1
    funext a
    obtain ⟨a, ha⟩ := a
    change a < 3 at ha
    interval_cases a <;> rfl
  · show GatherDims.start gather_S16x20000x6_S16x300x1_S16x300x6_2_1_0_0_1_2_116 _ _ (2 : Fin 3) + GatherDims.batchCoord gather_S16x20000x6_S16x300x1_S16x300x6_2_1_0_0_1_2_116 _ (2 : Fin 3) + GatherDims.offCoord gather_S16x20000x6_S16x300x1_S16x300x6_2_1_0_0_1_2_116 _ (2 : Fin 3) = l.val
    rw [GatherDims.batchCoord_eq_zero _ _ _ (by decide)]
    unfold GatherDims.start
    rw [dif_neg (by decide)]
    simp only [Nat.zero_add, Nat.add_zero]
    rfl

/-! ## An entry set at an index -/

theorem toInt_ofNat (n : Nat) (h : n < 2 ^ 31) : (BitVec.ofNat 32 n).toInt = (n : Int) := by
  rw [BitVec.toInt_eq_toNat_of_lt]
  · simp only [BitVec.toNat_ofNat]
    rw [Nat.mod_eq_of_lt (by omega)]
  · simp only [BitVec.toNat_ofNat]; omega

/-- Image `k`'s index pair lands at entry `(b, j)` exactly when `k` is `b` and the pair's second word is `j`. -/
theorem lands_at (y : IVec S16x2 32) (i : Fin 16 → Fin 20000) (h0 : ∀ b : Fin 16, y (ix2 b 0) = BitVec.ofNat 32 b.val) (h1 : ∀ b : Fin 16, y (ix2 b 1) = BitVec.ofNat 32 (i b).val)
    (k b : Fin 16) (j : Fin 20000) :
    scatter_S16x20000_S16x2_S16_n_01_01_1.resultIdx? (ix1 k) y = some (ix2 b j) ↔ k = b ∧ j = i b := by
  have s0 : scatter_S16x20000_S16x2_S16_n_01_01_1.start (ix1 k) y (0 : Fin 2) = (k.val : Int) := by
    unfold ScatterDims.start
    rw [dif_pos (by decide), ← toInt_ofNat k.val (by omega), ← h0]
    congr 2
    funext a
    obtain ⟨a, ha⟩ := a
    change a < 2 at ha
    interval_cases a <;> rfl
  have s1 : scatter_S16x20000_S16x2_S16_n_01_01_1.start (ix1 k) y (1 : Fin 2) = ((i k).val : Int) := by
    unfold ScatterDims.start
    rw [dif_pos (by decide), ← toInt_ofNat (i k).val (by omega), ← h1]
    congr 2
    funext a
    obtain ⟨a, ha⟩ := a
    change a < 2 at ha
    interval_cases a <;> rfl
  have w (a : Fin 2) : scatter_S16x20000_S16x2_S16_n_01_01_1.window (ix1 k) a = 0 := by
    unfold ScatterDims.window
    rw [dif_neg (by revert a; decide)]
  rw [Routing.resultIdx?_eq_some]
  constructor
  · intro h
    have e0 : scatter_S16x20000_S16x2_S16_n_01_01_1.start (ix1 k) y (0 : Fin 2) + (scatter_S16x20000_S16x2_S16_n_01_01_1.window (ix1 k) (0 : Fin 2) : Int) = (b.val : Int) := h (0 : Fin 2)
    have e1 : scatter_S16x20000_S16x2_S16_n_01_01_1.start (ix1 k) y (1 : Fin 2) + (scatter_S16x20000_S16x2_S16_n_01_01_1.window (ix1 k) (1 : Fin 2) : Int) = (j.val : Int) := h (1 : Fin 2)
    rw [s0, w] at e0
    rw [s1, w] at e1
    have : k = b := Fin.ext (by omega)
    subst this
    exact ⟨rfl, Fin.ext (by omega)⟩
  · rintro ⟨rfl, rfl⟩ a
    obtain ⟨a, ha⟩ := a
    change a < 2 at ha
    interval_cases a
    · show scatter_S16x20000_S16x2_S16_n_01_01_1.start (ix1 k) y (0 : Fin 2) + (scatter_S16x20000_S16x2_S16_n_01_01_1.window (ix1 k) (0 : Fin 2) : Int) = (k.val : Int)
      rw [s0, w]
      omega
    · show scatter_S16x20000_S16x2_S16_n_01_01_1.start (ix1 k) y (1 : Fin 2) + (scatter_S16x20000_S16x2_S16_n_01_01_1.window (ix1 k) (1 : Fin 2) : Int) = ((i k).val : Int)
      rw [s1, w]
      omega

theorem drop_at (x : Vec Ideal S16x20000 .f32) (y : IVec S16x2 32) (u : Vec Ideal S16 .f32) (v : EReal) (hu : ∀ k, u k = v) (i : Fin 16 → Fin 20000)
    (h0 : ∀ b : Fin 16, y (ix2 b 0) = BitVec.ofNat 32 b.val) (h1 : ∀ b : Fin 16, y (ix2 b 1) = BitVec.ofNat 32 (i b).val) (b : Fin 16) (j : Fin 20000) :
    Host.scatter scatter_S16x20000_S16x2_S16_n_01_01_1 (fun _ b => b) x y u (ix2 b j) = if j = i b then v else x (ix2 b j) := by
  by_cases h : j = i b
  · rw [if_pos h]
    exact Routing.scatter_set_hit _ x y u _ v (fun k _ => hu k) (ix1 b) ((lands_at y i h0 h1 b b j).2 ⟨rfl, h⟩)
  · rw [if_neg h]
    refine Routing.scatter_set_miss _ x y u _ fun k hk => h ?_
    obtain ⟨c, rfl⟩ : ∃ c : Fin 16, k = ix1 c := ⟨k 0, eq_ix1 (n0 := 16) k⟩
    exact ((lands_at y i h0 h1 c b j).1 hk).2

end Cert.ReferenceIdeal.Body
-- ==== Proof.ReferenceTrip.lean ====
/-
  A trip of the reference's loop read at an index: the pick, the index kept, the boxes struck out, the row stored.
-/
module

public import proofs.«01_k».proof.Proof.ReferencePick
public import proofs.«01_k».proof.Proof.ReferenceRun
public import Idealize.ShloMosaic.Lib.StableHlo.ReadAt

@[expose] public section

set_option maxRecDepth 16384

noncomputable section

namespace Cert.ReferenceIdeal.Body

open Cert.ReferenceIdeal.Gen Cert.Greedy

open Idealize.ShloMosaic Idealize.ShloMosaic.TcCoe

open Idealize.ShloMosaic.StableHlo

/-- A word that is a number is not below zero, so it is not wrapped. -/
theorem wrap_word (i n : ℕ) (hi : i < 2147483648) :
    Scalar.select (IntOp.cmpi .slt (BitVec.ofNat 32 i) 0#32) (IntOp.addi (BitVec.ofNat 32 i) (BitVec.ofNat 32 n)) (BitVec.ofNat 32 i) = BitVec.ofNat 32 i := by
  have h : IntOp.cmpi .slt (BitVec.ofNat 32 i) 0#32 = 0#1 := by
    have := slt_ofNat i 0 hi (by omega)
    show BitVec.ofBool ((BitVec.ofNat 32 i).slt (BitVec.ofNat 32 0)) = 0#1
    rw [this]
    simp
  rw [h]
  rfl

/-! ## A trip's stretches -/

variable (V : Valuation τ sig (Elt Ideal))

/-- Where the largest score stands first. -/
theorem trip0_at (b : Fin 16) (s : Fin N → EReal) (hs : ∀ j : Fin 20000, V (Proc.devRef .tc main_v23_3) (ix2 b j) = s j) :
    after trip0 V (Proc.devRef .tc main_while0b_v39) (ix1 b) = BitVec.ofNat 32 (top s).val := by
  show StableHlo.after _ _ _ _ = _
  after_reads_at
  exact top_at _ b _ (by simpa only [hs] using top_spec s)

/-- The score at the index. -/
theorem trip12_at (b : Fin 16) (i : Fin 20000) (hi : V (Proc.devRef .tc main_while0b_v39) (ix1 b) = BitVec.ofNat 32 i.val) :
    after (trip1 ++ trip2) V (Proc.devRef .tc main_while0b_v41) (ix2 b 0) = V (Proc.devRef .tc main_v23_3) (ix2 b i) := by
  show StableHlo.after _ _ _ _ = _
  after_reads_at
  refine take_score _ _ b i ?_
  show Scalar.select (IntOp.cmpi _ (V (Proc.devRef .tc main_while0b_v39) (ix1 b)) _) (IntOp.addi (V (Proc.devRef .tc main_while0b_v39) (ix1 b)) _) (V (Proc.devRef .tc main_while0b_v39) (ix1 b)) = _
  rw [hi]
  exact wrap_word _ 20000 (by omega)

/-- The index kept. -/
theorem trip34_at (b : Fin 16) (v : EReal) (hv : V (Proc.devRef .tc main_while0b_v41) (ix2 b 0) = v) (w : BitVec 32)
   (hw : V (Proc.devRef .tc main_while0b_v39) (ix1 b) = w) :
    after (trip3 ++ trip4) V (Proc.devRef .tc main_while0b_v45) (ix1 b) = if ⊥ < v then w else 4294967295#32 := by
  show StableHlo.after _ _ _ _ = _
  after_reads_at
  rw [hv, hw, negInf]

/-- The box at the index. -/
theorem trip56_at (b : Fin 16) (l : Fin 4) (i : Fin 20000) (hi : V (Proc.devRef .tc main_while0b_v39) (ix1 b) = BitVec.ofNat 32 i.val) :
    after (trip5 ++ trip6) V (Proc.devRef .tc main_while0b_v48) (ix3 b 0 l) = V (Proc.devRef .tc main_v23_0) (ix3 b i l) := by
  show StableHlo.after _ _ _ _ = _
  after_reads_at
  refine take_box _ _ b i l ?_
  pointwise
  rw [hi]
  exact wrap_word _ 20000 (by omega)

/-- The boxes it overlaps struck out. -/
theorem trip78_at (b : Fin 16) (B : Img) (i j : Fin 20000) (s : EReal)
   (h1 : ∀ l : Fin 4, V (Proc.devRef .tc main_v23_0) (ix3 b j l) = (![nx1 B j, ny1 B j, nx2 B j, ny2 B j] : Fin 4 → EReal) l)
   (h2 : ∀ l : Fin 4, V (Proc.devRef .tc main_while0b_v48) (ix3 b 0 l) = (![nx1 B i, ny1 B i, nx2 B i, ny2 B i] : Fin 4 → EReal) l)
   (hs : V (Proc.devRef .tc main_v23_3) (ix2 b j) = s) [Decidable (Over B i j)] :
    after (trip7 ++ trip8) V (Proc.devRef .tc main_while0b_v103) (ix2 b j) = if Over B i j then ⊥ else s := by
  show StableHlo.after _ _ _ _ = _
  after_reads_at
  simp only [h1, h2, hs]
  have e : id (constant (F := Ideal) S_ FTy.f32 4286578688#32) ix0 = (⊥ : EReal) := negInf
  rw [e]
  exact if_congr (iff_of_eq (by unfold Over area inter thr tiny; simp [Ideal.ofBits, Ideal.ieee])) rfl rfl

/-- The box itself struck out. -/
theorem trip9_at (i : Fin 16 → Fin 20000) (h0 : ∀ b : Fin 16, V (Proc.devRef .tc main_v23_1) (ix1 b) = BitVec.ofNat 32 b.val)
    (h1 : ∀ b : Fin 16, V (Proc.devRef .tc main_while0b_v39) (ix1 b) = BitVec.ofNat 32 (i b).val) (b : Fin 16) (j : Fin 20000) (s : EReal)
    (hs : V (Proc.devRef .tc main_while0b_v103) (ix2 b j) = s) :
    after trip9 V (Proc.devRef .tc main_while0b_v118) (ix2 b j) = if j = i b then ⊥ else s := by
  show StableHlo.after _ _ _ _ = _
  after_reads_at
  refine (drop_at _ _ _ ⊥ ?_ i ?_ ?_ b j).trans ?_
  · intro k
    exact negInf
  · intro b
    pointwise
    after_reads_at
    rw [h0]
    exact wrap_word _ 16 (by omega)
  · intro b
    pointwise
    after_reads_at
    rw [h1]
    exact wrap_word _ 20000 (by omega)
  · rw [hs]

theorem iv_eq : ∀ k : ℕ, Scf.iv 0#32 1#32 k = BitVec.ofNat 32 k
  | 0 => Scf.iv_zero _ _
  | k + 1 => by rw [Scf.iv_succ, iv_eq k, ← BitVec.ofNat_add]

/-- A row stored in the table at row `k`. -/
theorem store_at (x : IVec S300x16 32) (u : IVec S1x16 32) (f : Fin 2 → Int) (k : ℕ) (hk : k < 300) (h0 : f 0 = (k : Int)) (h1 : f 1 = 0) (r : Fin 300) (b : Fin 16) :
    Host.dynamicUpdateSlice x u f updateFits_S300x16_S1x16 (ix2 r b) = if r.val = k then u (ix2 0 b) else x (ix2 r b) := by
  have hf : f = ![(k : Int), 0] := by
    funext a
    obtain ⟨a, ha⟩ := a
    interval_cases a
    · exact h0
    · exact h1
  subst hf
  have hb := b.isLt
  have hr := r.isLt
  have e0 : (min (max (k : Int) 0) ((300 - 1 : ℕ) : Int)).toNat = k := by omega
  have e1 : (min (max (0 : Int) 0) ((16 - 16 : ℕ) : Int)).toNat = 0 := by omega
  have c0 : ∀ h, Host.clampedStart S300x16 S1x16 h ![(k : Int), 0] (0 : Fin 2) = k := fun _ => e0
  have c1 : ∀ h, Host.clampedStart S300x16 S1x16 h ![(k : Int), 0] (1 : Fin 2) = 0 := fun _ => e1
  pointwise
  simp only [c0, c1]
  by_cases h : r.val = k
  · rw [dif_pos ⟨⟨by omega, by omega⟩, by omega⟩, if_pos h]
    congr 1
    exact congrArg₂ ix2 (Fin.ext (by show r.val - k = 0; omega)) (Fin.ext (by show b.val - 0 = b.val; omega))
  · rw [dif_neg (by omega), if_neg h]

/-- The index kept, stored. -/
theorem trip10_at (k : ℕ) (hk : k < 300) (hc : V (Proc.devRef .tc main_v23_2) = fun _ => Scf.iv 0#32 1#32 k) (r : Fin 300) (b : Fin 16) :
    after trip10 V (Proc.devRef .tc main_while0b_v119) (ix2 r b) = if r.val = k then V (Proc.devRef .tc main_while0b_v45) (ix1 b) else V (Proc.devRef .tc main_v23_4) (ix2 r b) := by
  show StableHlo.after _ _ _ _ = _
  after_reads_simp
  refine (store_at _ _ _ k hk ?_ ?_ r b).trans ?_
  · show BitVec.toInt (upto trip10 V 2 (Proc.devRef .tc main_v23_2) _) = _
    after_reads_simp
    rw [hc]
    show (Scf.iv 0#32 1#32 k).toInt = _
    rw [iv_eq]
    exact toInt_ofNat k (by omega)
  · show BitVec.toInt (upto trip10 V 2 (Proc.devRef .tc main_while0b_call7_c) _) = _
    after_reads_simp
    rfl
  · refine if_congr Iff.rfl ?_ rfl
    simp -implicitDefEqProofs only [StableHlo.TRef.toBuf, StableHlo.TRef.ofBuf, cast_cast, cast_eq]
    clean_types
    pointwise

/-! ## A trip -/

/-- What a trip needs of the buffers: the boxes, the numbers of the images, the scores. -/
structure Holds (B : Fin 16 → Img) (s : Fin 16 → Fin N → EReal) : Prop where
  boxes : ∀ (b : Fin 16) (j : Fin 20000) (l : Fin 4), V (Proc.devRef .tc main_v23_0) (ix3 b j l) = (![nx1 (B b) j, ny1 (B b) j, nx2 (B b) j, ny2 (B b) j] : Fin 4 → EReal) l
  images : ∀ b : Fin 16, V (Proc.devRef .tc main_v23_1) (ix1 b) = BitVec.ofNat 32 b.val
  scores : ∀ (b : Fin 16) (j : Fin 20000), V (Proc.devRef .tc main_v23_3) (ix2 b j) = s b j

/-- The buffers after the first stretches of a trip. -/
abbrev A0 : Valuation τ sig (Elt Ideal) := after trip0 V
abbrev A2 : Valuation τ sig (Elt Ideal) := after (trip1 ++ trip2) (A0 V)
abbrev A4 : Valuation τ sig (Elt Ideal) := after (trip3 ++ trip4) (A2 V)
abbrev A6 : Valuation τ sig (Elt Ideal) := after (trip5 ++ trip6) (A4 V)
abbrev A8 : Valuation τ sig (Elt Ideal) := after (trip7 ++ trip8) (A6 V)
abbrev A9 : Valuation τ sig (Elt Ideal) := after trip9 (A8 V)
abbrev A10 : Valuation τ sig (Elt Ideal) := after trip10 (A9 V)

theorem head_eq : afterL headI V = A10 V := by
  simp only [afterL_cons, afterL_nil, A10, A9, A8, A6, A4, A2, A0, after_append]

theorem keep0 (r : Ref sig .tc) (h : r ∉ headW.take 5) : A0 V (Proc.devRef .tc r) = V (Proc.devRef .tc r) :=
  after_of_writes_sub _ V (forall_writes_sub_of_map (W := headW.take 5) rfl) h
theorem keep2 (r : Ref sig .tc) (h : r ∉ (headW.drop 5).take 10) : A2 V (Proc.devRef .tc r) = A0 V (Proc.devRef .tc r) :=
  after_of_writes_sub _ _ (forall_writes_sub_of_map (W := (headW.drop 5).take 10) rfl) h
theorem keep4 (r : Ref sig .tc) (h : r ∉ (headW.drop 15).take 7) : A4 V (Proc.devRef .tc r) = A2 V (Proc.devRef .tc r) :=
  after_of_writes_sub _ _ (forall_writes_sub_of_map (W := (headW.drop 15).take 7) rfl) h
theorem keep6 (r : Ref sig .tc) (h : r ∉ (headW.drop 22).take 10) : A6 V (Proc.devRef .tc r) = A4 V (Proc.devRef .tc r) :=
  after_of_writes_sub _ _ (forall_writes_sub_of_map (W := (headW.drop 22).take 10) rfl) h
theorem keep8 (r : Ref sig .tc) (h : r ∉ (headW.drop 32).take 65) : A8 V (Proc.devRef .tc r) = A6 V (Proc.devRef .tc r) :=
  after_of_writes_sub _ _ (forall_writes_sub_of_map (W := (headW.drop 32).take 65) rfl) h
theorem keep9 (r : Ref sig .tc) (h : r ∉ (headW.drop 97).take 20) : A9 V (Proc.devRef .tc r) = A8 V (Proc.devRef .tc r) :=
  after_of_writes_sub _ _ (forall_writes_sub_of_map (W := (headW.drop 97).take 20) rfl) h
theorem keep10 (r : Ref sig .tc) (h : r ∉ headW.drop 117) : A10 V (Proc.devRef .tc r) = A9 V (Proc.devRef .tc r) :=
  after_of_writes_sub _ _ (forall_writes_sub_of_map (W := headW.drop 117) rfl) h

/-- The scores and the table carried on. -/
theorem last_scores (b : Fin 16) (j : Fin 20000) :
    after trip11 V (Proc.devRef .tc main_v23_3) (ix2 b j) = V (Proc.devRef .tc main_while0b_v118) (ix2 b j) := by
  show StableHlo.after _ _ _ _ = _
  after_reads_at
  rfl
theorem last_table (r : Fin 300) (b : Fin 16) :
    after trip11 V (Proc.devRef .tc main_v23_4) (ix2 r b) = V (Proc.devRef .tc main_while0b_v119) (ix2 r b) := by
  show StableHlo.after _ _ _ _ = _
  after_reads_at
  rfl

variable {V}

/-- The index kept from scores `s`: where the largest stands first, or the word −1 when all are struck out. -/
def kept (s : Fin N → EReal) : BitVec 32 := if ⊥ < s (top s) then BitVec.ofNat 32 (top s).val else 4294967295#32

section

variable {B : Fin 16 → Img} {s : Fin 16 → Fin N → EReal} (h : Holds V B s)
include h

theorem pick0 (b : Fin 16) : A0 V (Proc.devRef .tc main_while0b_v39) (ix1 b) = BitVec.ofNat 32 (top (s b)).val := trip0_at V b (s b) (h.scores b)

theorem pick4 (b : Fin 16) : A4 V (Proc.devRef .tc main_while0b_v39) (ix1 b) = BitVec.ofNat 32 (top (s b)).val := by
  rw [keep4 _ _ (by decide +kernel), keep2 _ _ (by decide +kernel)]
  exact pick0 h b

theorem pick8 (b : Fin 16) : A8 V (Proc.devRef .tc main_while0b_v39) (ix1 b) = BitVec.ofNat 32 (top (s b)).val := by
  rw [keep8 _ _ (by decide +kernel), keep6 _ _ (by decide +kernel)]
  exact pick4 h b

theorem kept_at (b : Fin 16) : A9 V (Proc.devRef .tc main_while0b_v45) (ix1 b) = kept (s b) := by
  rw [keep9 _ _ (by decide +kernel), keep8 _ _ (by decide +kernel), keep6 _ _ (by decide +kernel)]
  refine trip34_at (A2 V) b (s b (top (s b))) ?_ _ ?_
  · refine (trip12_at (A0 V) b (top (s b)) (pick0 h b)).trans ?_
    rw [keep0 _ _ (by decide +kernel)]
    exact h.scores b _
  · rw [keep2 _ _ (by decide +kernel)]
    exact pick0 h b

theorem boxes6 (b : Fin 16) (j : Fin 20000) (l : Fin 4) :
    A4 V (Proc.devRef .tc main_v23_0) (ix3 b j l) = (![nx1 (B b) j, ny1 (B b) j, nx2 (B b) j, ny2 (B b) j] : Fin 4 → EReal) l := by
  rw [keep4 _ _ (by decide +kernel), keep2 _ _ (by decide +kernel), keep0 _ _ (by decide +kernel)]
  exact h.boxes b j l

theorem struck_at (b : Fin 16) (j : Fin 20000) : A9 V (Proc.devRef .tc main_while0b_v118) (ix2 b j) = next (B b) (s b) j := by
  classical
  refine (trip9_at (A8 V) (fun b => top (s b)) (fun b => ?_) (pick8 h) b j (if Over (B b) (top (s b)) j then ⊥ else s b j) ?_).trans ?_
  · rw [keep8 _ _ (by decide +kernel), keep6 _ _ (by decide +kernel), keep4 _ _ (by decide +kernel), keep2 _ _ (by decide +kernel), keep0 _ _ (by decide +kernel)]
    exact h.images b
  · refine trip78_at (A6 V) b (B b) (top (s b)) j (s b j) (fun l => ?_) (fun l => ?_) ?_
    · rw [keep6 _ _ (by decide +kernel)]
      exact boxes6 h b j l
    · exact (trip56_at (A4 V) b l (top (s b)) (pick4 h b)).trans (boxes6 h b _ l)
    · rw [keep6 _ _ (by decide +kernel), keep4 _ _ (by decide +kernel), keep2 _ _ (by decide +kernel), keep0 _ _ (by decide +kernel)]
      exact h.scores b j
  · unfold next
    by_cases h1 : j = top (s b) <;> by_cases h2 : Over (B b) (top (s b)) j <;> simp [h1, h2]

/-- The scores after a trip. -/
theorem scores_next (b : Fin 16) (j : Fin 20000) : afterL tripI V (Proc.devRef .tc main_v23_3) (ix2 b j) = next (B b) (s b) j := by
  rw [trip_cut, head_eq, last_scores, keep10 _ _ (by decide +kernel)]
  exact struck_at h b j

/-- The table after a trip. -/
theorem table_next (k : ℕ) (hk : k < 300) (hc : V (Proc.devRef .tc main_v23_2) = fun _ => Scf.iv 0#32 1#32 k) (r : Fin 300) (b : Fin 16) :
    afterL tripI V (Proc.devRef .tc main_v23_4) (ix2 r b) = if r.val = k then kept (s b) else V (Proc.devRef .tc main_v23_4) (ix2 r b) := by
  rw [trip_cut, head_eq, last_table]
  refine (trip10_at (A9 V) k hk ?_ r b).trans ?_
  · rw [keep9 _ _ (by decide +kernel), keep8 _ _ (by decide +kernel), keep6 _ _ (by decide +kernel), keep4 _ _ (by decide +kernel), keep2 _ _ (by decide +kernel), keep0 _ _ (by decide +kernel)]
    exact hc
  · rw [keep9 _ main_v23_4 (by decide +kernel), keep8 _ _ (by decide +kernel), keep6 _ _ (by decide +kernel), keep4 _ _ (by decide +kernel), keep2 _ _ (by decide +kernel), keep0 _ _ (by decide +kernel), kept_at h b]

end

end Cert.ReferenceIdeal.Body
-- ==== Proof.ReferenceValue.lean ====
/-
  The reference's result: what the loop starts from, its invariant, and the rows at the end, as the plain mathematics of
  each image.
-/
module

public import proofs.«01_k».proof.Proof.ReferenceTrip

@[expose] public section

set_option maxRecDepth 16384

noncomputable section

namespace Cert.ReferenceIdeal.Body

open Cert.ReferenceIdeal.Gen Cert.Greedy

open Idealize.ShloMosaic Idealize.ShloMosaic.TcCoe

open Idealize.ShloMosaic.StableHlo

section

variable (V : Valuation τ sig (Elt Ideal)) (q : Fin 16 → Fin 84 → Fin N → EReal)

/-! ## Before the loop -/

/-- The buffers after the first stretches, and when the loop starts. -/
abbrev P1 : Valuation τ sig (Elt Ideal) := after (pre0 ++ pre1) V
abbrev P2 : Valuation τ sig (Elt Ideal) := after (pre2 ++ (pre3 ++ pre4)) (P1 V)

theorem pre_eq : afterL preI V = P2 V := by
  simp only [afterL_cons, afterL_nil, P1, P2, after_append]

theorem fold_top (f : Fin 80 → EReal) (i : Fin 80) (hi : IsTop f i) : Finset.univ.fold max ⊥ f = f i := by
  apply le_antisymm
  · exact (Finset.fold_max_le _).2 ⟨bot_le, fun c _ => hi.1 c⟩
  · rw [Finset.le_fold_max]
    exact .inr ⟨i, Finset.mem_univ _, le_refl _⟩

theorem score1 (hq : ∀ (b : Fin 16) (k : Fin 84) (j : Fin 20000), V (Proc.devRef .tc main_arg1) (ix3 b k j) = q b k j) (b : Fin 16) (j : Fin 20000) :
    P1 V (Proc.devRef .tc main_v3) (ix2 b j) = (img (q b)).score j := by
  show StableHlo.after _ _ _ _ = _
  after_reads_at
  simp only [hq, negInf]
  refine Eq.trans ?_ (fold_top _ _ (best_spec (q b) j))
  congr 1
  funext c
  congr 1
  exact Fin.ext (Nat.add_comm _ _)

theorem class1 (hq : ∀ (b : Fin 16) (k : Fin 84) (j : Fin 20000), V (Proc.devRef .tc main_arg1) (ix3 b k j) = q b k j) (b : Fin 16) (j : Fin 20000) :
    P1 V (Proc.devRef .tc main_v4) (ix2 b j) = BitVec.ofNat 32 (best (q b) j).val := by
  show StableHlo.after _ _ _ _ = _
  after_reads_at
  refine class_at _ b j _ ?_
  have e : ∀ c : Fin 80, extractStridedSlice S16x20000x80 ![0, 0, 4]
        (transpose S16x20000x84 [0, 2, 1] (V (Proc.devRef .tc main_arg1)) transposes_S16x84x20000_S16x20000x84_0_2_1)
        slices_S16x20000x84_S16x20000x80_0_0_4 (ix3 b j c) = q b ⟨c.val + 4, by omega⟩ j := by
    intro c
    pointwise
    rw [hq]
    congr 1
    exact Fin.ext (Nat.add_comm _ _)
  simp only [e]
  exact best_spec (q b) j

theorem box1 (hq : ∀ (b : Fin 16) (k : Fin 84) (j : Fin 20000), V (Proc.devRef .tc main_arg1) (ix3 b k j) = q b k j) (b : Fin 16) (j : Fin 20000) (l : Fin 4) :
    P1 V (Proc.devRef .tc main_v1) (ix3 b j l) = q b ⟨l.val, by omega⟩ j := by
  show StableHlo.after _ _ _ _ = _
  after_reads_at
  exact hq _ _ _

variable (W : Valuation τ sig (Elt Ideal))

theorem class2 (b : Fin 16) (j : Fin 20000) (h : W (Proc.devRef .tc main_v4) (ix2 b j) = BitVec.ofNat 32 (best (q b) j).val) :
    after (pre2 ++ (pre3 ++ pre4)) W (Proc.devRef .tc main_v5) (ix2 b j) = (img (q b)).cls j := by
  show StableHlo.after _ _ _ _ = _
  after_reads_at
  rw [h]
  rfl

theorem corner2 (b : Fin 16) (j : Fin 20000) (h : ∀ l : Fin 4, W (Proc.devRef .tc main_v1) (ix3 b j l) = q b ⟨l.val, by omega⟩ j) (l : Fin 4) :
    after (pre2 ++ (pre3 ++ pre4)) W (Proc.devRef .tc main_v14) (ix3 b j l)
      = (![(img (q b)).x1 j, (img (q b)).y1 j, (img (q b)).x2 j, (img (q b)).y2 j] : Fin 4 → EReal) l := by
  show StableHlo.after _ _ _ _ = _
  after_reads_at
  simp only [h]
  obtain ⟨l, hl⟩ := l
  interval_cases l <;> rfl

theorem start2 (b : Fin 16) (j : Fin 20000) (h : W (Proc.devRef .tc main_v3) (ix2 b j) = (img (q b)).score j) :
    after (pre2 ++ (pre3 ++ pre4)) W (Proc.devRef .tc main_v23_3) (ix2 b j) = start (img (q b)) j := by
  show StableHlo.after _ _ _ _ = _
  after_reads_at
  simp only [id_eq]
  pointwise
  rw [h, negInf]
  rfl

theorem image2 (b : Fin 16) : after (pre2 ++ (pre3 ++ pre4)) W (Proc.devRef .tc main_v23_1) (ix1 b) = BitVec.ofNat 32 b.val := by
  show StableHlo.after _ _ _ _ = _
  after_reads_at
  rfl

theorem scaled2 (b : Fin 16) (j : Fin 20000) (h : ∀ l : Fin 4, W (Proc.devRef .tc main_v1) (ix3 b j l) = q b ⟨l.val, by omega⟩ j)
    (h' : W (Proc.devRef .tc main_v4) (ix2 b j) = BitVec.ofNat 32 (best (q b) j).val) (l : Fin 4) :
    after (pre2 ++ (pre3 ++ pre4)) W (Proc.devRef .tc main_v23_0) (ix3 b j l)
      = (![nx1 (img (q b)) j, ny1 (img (q b)) j, nx2 (img (q b)) j, ny2 (img (q b)) j] : Fin 4 → EReal) l := by
  show StableHlo.after _ _ _ _ = _
  after_reads_at
  simp only [id_eq]
  pointwise
  after_reads_at
  simp only [h, h']
  obtain ⟨l, hl⟩ := l
  interval_cases l <;> rfl

end

/-! ## After the loop -/

section

variable (V : Valuation τ sig (Elt Ideal))

theorem keepPost (r : Ref sig .tc) (h : r ∉ postW.take 14) : after post0 V (Proc.devRef .tc r) = V (Proc.devRef .tc r) :=
  after_of_writes_sub _ V (forall_writes_sub_of_map (W := postW.take 14) rfl) h

/-- A word that is a number is the greater of itself and zero, and is not below it. -/
theorem maxsi_zero (n : ℕ) (hn : n < 2147483648) : IntOp.maxsi (BitVec.ofNat 32 n) 0#32 = BitVec.ofNat 32 n := by
  have h' := slt_ofNat 0 n (by omega) hn
  unfold IntOp.maxsi
  rw [h']
  by_cases e : 0 < n
  · simp [e]
  · have : n = 0 := by omega
    subst this
    rfl

theorem sge_zero (n : ℕ) (hn : n < 2147483648) : IntOp.cmpi .sge (BitVec.ofNat 32 n) 0#32 = 1#1 := by
  have h : (0#32).sle (BitVec.ofNat 32 n) = true := by
    rw [BitVec.sle_eq_decide, toInt_ofNat n (by omega)]
    simp
  show BitVec.ofBool ((0#32).sle (BitVec.ofNat 32 n)) = 1#1
  rw [h]
  rfl

/-- Which kept index stands in the table, none as zero. -/
theorem index_at (b : Fin 16) (r : Fin 300) (s : Fin N → EReal) (h : V (Proc.devRef .tc main_v23_4) (ix2 r b) = kept s) :
    after post0 V (Proc.devRef .tc main_v35) (ix3 b r 0) = BitVec.ofNat 32 (if ⊥ < s (top s) then (top s).val else 0) := by
  show StableHlo.after _ _ _ _ = _
  after_reads_at
  rw [h]
  unfold kept
  split
  · exact maxsi_zero _ (by have : (top s).val < 20000 := (top s).isLt; omega)
  · rfl

theorem mask_at (b : Fin 16) (r : Fin 300) (s : Fin N → EReal) (h : V (Proc.devRef .tc main_v23_4) (ix2 r b) = kept s) :
    after post0 V (Proc.devRef .tc main_v31) (ix3 b r 0) = if ⊥ < s (top s) then (1 : EReal) else 0 := by
  show StableHlo.after _ _ _ _ = _
  after_reads_at
  rw [h]
  unfold kept
  split
  · rw [sge_zero _ (by have : (top s).val < 20000 := (top s).isLt; omega)]
    simp [FloatOps.sitofp]
  · rw [show IntOp.cmpi .sge 4294967295#32 0#32 = 0#1 from by decide]
    simp [FloatOps.sitofp]

theorem row_at (b : Fin 16) (B : Img) (j : Fin 20000) (l : Fin 6)
    (h14 : ∀ l : Fin 4, V (Proc.devRef .tc main_v14) (ix3 b j l) = (![B.x1 j, B.y1 j, B.x2 j, B.y2 j] : Fin 4 → EReal) l)
    (h3 : V (Proc.devRef .tc main_v3) (ix2 b j) = B.score j) (h5 : V (Proc.devRef .tc main_v5) (ix2 b j) = B.cls j) :
    after post0 V (Proc.devRef .tc main_v34) (ix3 b j l) = row B j l := by
  show StableHlo.after _ _ _ _ = _
  after_reads_at
  obtain ⟨l, hl⟩ := l
  interval_cases l
  · exact h14 0
  · exact h14 1
  · exact h14 2
  · exact h14 3
  · rw [dif_neg (show ¬4 < 4 by decide), dif_pos (show 4 - 4 < 1 by decide)]
    refine Eq.trans ?_ h3
    after_reads_at
  · rw [dif_neg (show ¬5 < 4 by decide), dif_neg (show ¬5 - 4 < 1 by decide)]
    refine Eq.trans ?_ h5
    after_reads_at

theorem taken_at (b : Fin 16) (r : Fin 300) (i : Fin 20000) (l : Fin 6) (h : V (Proc.devRef .tc main_v35) (ix3 b r 0) = BitVec.ofNat 32 i.val)
    (x y : EReal) (hx : V (Proc.devRef .tc main_v34) (ix3 b i l) = x) (hy : V (Proc.devRef .tc main_v31) (ix3 b r 0) = y) :
    after (post1 ++ post2) V (Proc.devRef .tc main_v38) (ix3 b r l) = x * y := by
  show StableHlo.after _ _ _ _ = _
  after_reads_at
  rw [hy]
  congr 1
  refine (take_row _ _ b r i l ?_).trans hx
  pointwise
  rw [h]
  exact wrap_word _ 20000 (by omega)

end

/-! ## The result -/

section

variable (m : (ℓ : Loc nD τ sig) → Buf (Elt Ideal) ℓ) (c : Dev nD)

/-- An image's prediction. -/
def qOf (b : Fin 16) : Fin 84 → Fin N → EReal := fun k j => m ((c : Thread nD τ).loc main_arg1) (ix3 b k j)

/-- The images. -/
abbrev imgs (b : Fin 16) : Img := img (qOf m c b)

theorem entry_eq : entryContents preI m c = P2 (launchContents m c) := pre_eq _

theorem launch_at (b : Fin 16) (k : Fin 84) (j : Fin 20000) : launchContents m c (Proc.devRef .tc main_arg1) (ix3 b k j) = qOf m c b k j := rfl

theorem entry_class (b : Fin 16) (j : Fin 20000) : entryContents preI m c (Proc.devRef .tc main_v5) (ix2 b j) = (imgs m c b).cls j := by
  rw [entry_eq]
  exact class2 (qOf m c) _ b j (class1 _ (qOf m c) (launch_at m c) b j)

theorem entry_corner (b : Fin 16) (j : Fin 20000) (l : Fin 4) : entryContents preI m c (Proc.devRef .tc main_v14) (ix3 b j l)
    = (![(imgs m c b).x1 j, (imgs m c b).y1 j, (imgs m c b).x2 j, (imgs m c b).y2 j] : Fin 4 → EReal) l := by
  rw [entry_eq]
  exact corner2 (qOf m c) _ b j (box1 _ (qOf m c) (launch_at m c) b j) l

theorem entry_score (b : Fin 16) (j : Fin 20000) : entryContents preI m c (Proc.devRef .tc main_v3) (ix2 b j) = (imgs m c b).score j := by
  rw [entry_eq]
  show after (pre2 ++ (pre3 ++ pre4)) (P1 (launchContents m c)) (Proc.devRef .tc main_v3) (ix2 b j) = _
  rw [after_of_writes_sub _ _ (forall_writes_sub_of_map (W := preW.drop 10) rfl) (by decide +kernel)]
  exact score1 _ (qOf m c) (launch_at m c) b j

/-- What the loop carries before trip `k`. -/
theorem holds_at (k : ℕ) : Holds (after condOps (atK m k c)) (imgs m c) (fun b => at_ (imgs m c b) k) := by
  have boxes : ∀ k (b : Fin 16) (j : Fin 20000) (l : Fin 4), after condOps (atK m k c) (Proc.devRef .tc main_v23_0) (ix3 b j l)
      = (![nx1 (imgs m c b) j, ny1 (imgs m c b) j, nx2 (imgs m c b) j, ny2 (imgs m c b) j] : Fin 4 → EReal) l := by
    intro k b j l
    rw [cond_keep _ _ (by decide), atK_keep m _ (by decide +kernel) (by decide) (by decide), entry_eq]
    exact scaled2 (qOf m c) _ b j (box1 _ (qOf m c) (launch_at m c) b j) (class1 _ (qOf m c) (launch_at m c) b j) l
  have images : ∀ k (b : Fin 16), after condOps (atK m k c) (Proc.devRef .tc main_v23_1) (ix1 b) = BitVec.ofNat 32 b.val := by
    intro k b
    rw [cond_keep _ _ (by decide), atK_keep m _ (by decide +kernel) (by decide) (by decide), entry_eq]
    exact image2 _ b
  induction k with
  | zero =>
    refine ⟨boxes 0, images 0, fun b j => ?_⟩
    rw [cond_keep _ _ (by decide), show atK m 0 c = entryContents preI m c from rfl, entry_eq]
    exact start2 (qOf m c) _ b j (score1 _ (qOf m c) (launch_at m c) b j)
  | succ k ih =>
    refine ⟨boxes _, images _, fun b j => ?_⟩
    rw [cond_keep _ _ (by decide), show atK m (k + 1) c = afterL tripI (after condOps (atK m k c)) from rfl]
    exact scores_next ih b j

/-- The indices kept before trip `k`. -/
theorem table_at (b : Fin 16) (r : Fin 300) : ∀ k : ℕ, k ≤ 300 → r.val < k → atK m k c (Proc.devRef .tc main_v23_4) (ix2 r b) = kept (at_ (imgs m c b) r.val)
  | 0, _, h => absurd h (Nat.not_lt_zero _)
  | k + 1, hk, h => by
    rw [show atK m (k + 1) c = afterL tripI (after condOps (atK m k c)) from rfl]
    refine (table_next (holds_at m c k) k (by omega) ?_ r b).trans ?_
    · rw [cond_keep _ _ (by decide)]
      exact atK_counter m c k
    · by_cases e : r.val = k
      · rw [if_pos e, e]
      · rw [if_neg e, cond_keep _ _ (by decide)]
        exact table_at b r k (by omega) (by omega)

theorem end_keep (r : Ref sig .tc) (h₁ : r ∉ headW) (h₂ : r ∉ [main_while0b_c_26, main_while0b_v120, main_v23_2, main_v23_3, main_v23_4])
    (h₃ : r ∉ [main_while0c_c_11, main_while0c_v39]) :
    after condOps (atK m 300 c) (Proc.devRef .tc r) = entryContents preI m c (Proc.devRef .tc r) := by
  rw [cond_keep _ _ h₃, atK_keep m _ h₁ h₂ h₃]

/-- The reference's result. -/
theorem value_at (b : Fin 16) (r : Fin 300) (l : Fin 6) :
    final m c (Proc.devRef .tc main_v38) (ix3 b r l) = out (imgs m c b) r.val l := by
  have hf : final m c = after (post1 ++ post2) (after post0 (after condOps (atK m 300 c))) := by
    rw [show final m c = afterL postI (after condOps (atK m 300 c)) from rfl]
    simp only [afterL_cons, afterL_nil, after_append]
  have ht : after condOps (atK m 300 c) (Proc.devRef .tc main_v23_4) (ix2 r b) = kept (at_ (imgs m c b) r.val) := by
    rw [cond_keep _ _ (by decide)]
    exact table_at m c b r 300 (le_refl _) r.isLt
  have hrow : ∀ j : Fin 20000, after post0 (after condOps (atK m 300 c)) (Proc.devRef .tc main_v34) (ix3 b j l) = row (imgs m c b) j l := fun j =>
    row_at _ b (imgs m c b) j l
      (fun l => by rw [end_keep m c _ (by decide +kernel) (by decide) (by decide)]; exact entry_corner m c b j l)
      (by rw [end_keep m c _ (by decide +kernel) (by decide) (by decide)]; exact entry_score m c b j)
      (by rw [end_keep m c _ (by decide +kernel) (by decide) (by decide)]; exact entry_class m c b j)
  rw [hf]
  have hi := index_at _ b r _ ht
  have hm := mask_at _ b r _ ht
  unfold out
  by_cases h : ⊥ < at_ (imgs m c b) r.val (top (at_ (imgs m c b) r.val))
  · rw [if_pos h] at hi hm ⊢
    rw [taken_at _ b r (top (at_ (imgs m c b) r.val)) l hi _ _ (hrow _) hm, mul_one]
  · rw [if_neg h] at hi hm ⊢
    rw [taken_at _ b r 0 l hi _ _ (hrow _) hm, mul_zero]

end

end Cert.ReferenceIdeal.Body
-- ==== Proof.lean ====
/-
  The claim: both kernels and the reference terminate with their arguments as launched and every counter at zero, the
  ideal kernel is the kernel, and it ends with the reference's result.
-/
module

public import proofs.«01_k».proof.Defs
public import proofs.«01_k».proof.Proof.KernelFrame
public import proofs.«01_k».proof.Proof.KernelIdealRun
public import proofs.«01_k».proof.Proof.KernelValue
public import proofs.«01_k».proof.Proof.ReferenceRun
public import proofs.«01_k».proof.Proof.ReferenceValue
public import proofs.«01_k».proof.Proof.Gen.Kernel
public import proofs.«01_k».proof.Proof.Gen.KernelIdeal
public import proofs.«01_k».proof.Proof.Gen.ReferenceIdeal
public import Idealize.ShloMosaic.Adequacy
public import Idealize.ShloMosaic.Init

@[expose] public section

noncomputable section

namespace Cert.Proof

open Idealize.ShloMosaic Idealize.SL.Sem Cert.Kernel

/-- The result: each image's rows, one for each trip. -/
abbrev rows (m : (ℓ : Loc Cert.KernelIdeal.nD Cert.KernelIdeal.τ Cert.KernelIdeal.sig) → Buf (Elt Ideal) ℓ) (c : Dev Cert.KernelIdeal.nD) :
    Buf (Elt Ideal) ((c.tc : Thread Cert.KernelIdeal.nD Cert.KernelIdeal.τ).loc Cert.KernelIdeal.main_v0) :=
  fun (i : Cert.KernelIdeal.S16x300x6.Idx) => Cert.Greedy.out (Cert.Greedy.img (Cert.KernelIdeal.Body.qOf m c (i 0))) (i 1).val (i 2)

/-- The kernel and the reference end with the same rows. -/
theorem algebraic : Cert.algebraic_KernelIdeal_ReferenceIdeal (hKernelIdeal := Cert.KernelIdeal.Gen.facts) (hReferenceIdeal := Cert.ReferenceIdeal.Gen.facts) := by
  intro m g m' g' _ hm
  refine ⟨rows m, ?_, ?_⟩
  · refine (θ_run _ _ _).mono (fun r h c => ?_) (Cert.KernelIdeal.Body.run m g)
    obtain ⟨h0, h1, G, hG, hv⟩ := h.1 c
    refine ⟨hv.trans ?_, h0, h1⟩
    funext (i : Cert.KernelIdeal.S16x300x6.Idx)
    obtain ⟨b, k, l, rfl⟩ : ∃ (b : Fin 16) (k : Fin 300) (l : Fin 6), i = ix3 b k l := ⟨i 0, i 1, i 2, eq_ix3 (n0 := 16) (n1 := 300) (n2 := 6) i⟩
    exact Cert.KernelIdeal.Body.value_at m g c G hG b k l
  · refine (θ_run _ _ _).mono (fun r h c => ?_) (Cert.ReferenceIdeal.Body.run m' g')
    have keep0 := Cert.ReferenceIdeal.Body.final_keep m' Cert.ReferenceIdeal.main_arg0 (by decide +kernel) (by decide +kernel) (by decide) (by decide) (by decide +kernel) c
    have keep1 := Cert.ReferenceIdeal.Body.final_keep m' Cert.ReferenceIdeal.main_arg1 (by decide +kernel) (by decide +kernel) (by decide) (by decide) (by decide +kernel) c
    refine ⟨(h.1 c Cert.ReferenceIdeal.main_v38 (by decide)).trans ?_, (h.1 c _ (by decide)).trans keep0, (h.1 c _ (by decide)).trans keep1⟩
    funext (i : Cert.KernelIdeal.S16x300x6.Idx)
    obtain ⟨b, k, l, rfl⟩ : ∃ (b : Fin 16) (k : Fin 300) (l : Fin 6), i = ix3 b k l := ⟨i 0, i 1, i 2, eq_ix3 (n0 := 16) (n1 := 300) (n2 := 6) i⟩
    refine (Cert.ReferenceIdeal.Body.value_at m' c b k l).trans ?_
    have hq : Cert.ReferenceIdeal.Body.qOf m' c b = Cert.KernelIdeal.Body.qOf m c b := by
      funext p j
      exact congrFun (hm c).2 (ix3 b p j)
    show Cert.Greedy.out (Cert.Greedy.img (Cert.ReferenceIdeal.Body.qOf m' c b)) k.val l = Cert.Greedy.out (Cert.Greedy.img (Cert.KernelIdeal.Body.qOf m c b)) k.val l
    rw [hq]

/-- Every claim of the certificate. -/
theorem claim : Cert.Claim := ⟨Cert.Kernel.Gen.facts, Cert.KernelIdeal.Gen.facts, Cert.ReferenceIdeal.Gen.facts,
  fun m ρ _ => Cert.Kernel.Body.frame m ρ,
  fun m ρ _ => Cert.KernelIdeal.Body.frame m ρ,
  fun m ρ _ => Cert.ReferenceIdeal.Body.frame m ρ,
  trivial,
  algebraic⟩

end Cert.Proof

end
